-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1024 : Shape := ⟨3, ![8, 4096, 1024]⟩
abbrev S8x128 : Shape := ⟨2, ![8, 128]⟩
abbrev S128 : Shape := ⟨1, ![128]⟩
abbrev S128x1024 : Shape := ⟨2, ![128, 1024]⟩
abbrev S1024x128 : Shape := ⟨2, ![1024, 128]⟩
abbrev S1024 : Shape := ⟨1, ![1024]⟩
abbrev S1x8x128 : Shape := ⟨3, ![1, 8, 128]⟩
abbrev S1x128 : Shape := ⟨2, ![1, 128]⟩
abbrev S1x1024 : Shape := ⟨2, ![1, 1024]⟩
abbrev S8x256x1024 : Shape := ⟨3, ![8, 256, 1024]⟩
abbrev S2048x1024 : Shape := ⟨2, ![2048, 1024]⟩
abbrev S2048x128 : Shape := ⟨2, ![2048, 128]⟩
abbrev S256x128 : Shape := ⟨2, ![256, 128]⟩
abbrev S255x128 : Shape := ⟨2, ![255, 128]⟩
abbrev S2x128 : Shape := ⟨2, ![2, 128]⟩
abbrev S254x128 : Shape := ⟨2, ![254, 128]⟩
abbrev S4x128 : Shape := ⟨2, ![4, 128]⟩
abbrev S252x128 : Shape := ⟨2, ![252, 128]⟩
abbrev S248x128 : Shape := ⟨2, ![248, 128]⟩
abbrev S16x128 : Shape := ⟨2, ![16, 128]⟩
abbrev S240x128 : Shape := ⟨2, ![240, 128]⟩
abbrev S32x128 : Shape := ⟨2, ![32, 128]⟩
abbrev S224x128 : Shape := ⟨2, ![224, 128]⟩
abbrev S64x128 : Shape := ⟨2, ![64, 128]⟩
abbrev S192x128 : Shape := ⟨2, ![192, 128]⟩
abbrev S128x128 : Shape := ⟨2, ![128, 128]⟩
abbrev S256x1024 : Shape := ⟨2, ![256, 1024]⟩
abbrev S1x256x1024 : Shape := ⟨3, ![1, 256, 1024]⟩

abbrev nBuf : Space → Nat
  | .hbm => 18
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x128, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S1024x128, .f32⟩
  | .hbm, ⟨6, _⟩ => ⟨S1024, .f32⟩
  | .hbm, ⟨7, _⟩ => ⟨S1024, .f32⟩
  | .hbm, ⟨8, _⟩ => ⟨S128, .f32⟩
  | .hbm, ⟨9, _⟩ => ⟨S1x8x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1024x128, .f32⟩
  | .hbm, ⟨14, _⟩ => ⟨S128x1024, .f32⟩
  | .hbm, ⟨15, _⟩ => ⟨S1x1024, .f32⟩
  | .hbm, ⟨16, _⟩ => ⟨S1x1024, .f32⟩
  | .hbm, ⟨17, _⟩ => ⟨S8x4096x1024, .f32⟩
  | .local _ .vmem, ⟨0, _⟩ => ⟨S8x256x1024, .f32⟩
  | .local _ .vmem, ⟨1, _⟩ => ⟨S8x256x1024, .f32⟩
  | .local _ .vmem, ⟨2, _⟩ => ⟨S1x8x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S8x256x1024, .f32⟩
  | .local _ .vmem, ⟨11, _⟩ => ⟨S8x256x1024, .f32⟩
  | .local _ .vmem, ⟨12, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x1024 : Shape := ⟨3, ![8, 4096, 1024]⟩
abbrev S8x128 : Shape := ⟨2, ![8, 128]⟩
abbrev S128 : Shape := ⟨1, ![128]⟩
abbrev S128x1024 : Shape := ⟨2, ![128, 1024]⟩
abbrev S1024x128 : Shape := ⟨2, ![1024, 128]⟩
abbrev S1024 : Shape := ⟨1, ![1024]⟩
abbrev S_ : Shape := ⟨0, ![]⟩
abbrev S8x4096x128 : Shape := ⟨3, ![8, 4096, 128]⟩
abbrev S1x1x128 : Shape := ⟨3, ![1, 1, 128]⟩
abbrev S4096x8x128 : Shape := ⟨3, ![4096, 8, 128]⟩
abbrev S1x8x128 : Shape := ⟨3, ![1, 8, 128]⟩
abbrev S1x128 : Shape := ⟨2, ![1, 128]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x128, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S1024x128, .f32⟩
  | .hbm, ⟨6, _⟩ => ⟨S1024, .f32⟩
  | .hbm, ⟨7, _⟩ => ⟨S1024, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S8x4096x128, .f32⟩
  | .hbm, ⟨18, _⟩ => ⟨S1x1x128, .f32⟩
  | .hbm, ⟨19, _⟩ => ⟨S8x4096x128, .f32⟩
  | .hbm, ⟨20, _⟩ => ⟨S8x4096x128, .f32⟩
  | .hbm, ⟨21, _⟩ => ⟨S1x1x128, .f32⟩
  | .hbm, ⟨22, _⟩ => ⟨S8x4096x128, .f32⟩
  | .hbm, ⟨23, _⟩ => ⟨S8x4096x128, .f32⟩
  | .hbm, ⟨24, _⟩ => ⟨S4096x8x128, .f32⟩
  | .hbm, ⟨25, _⟩ => ⟨S_, .f32⟩
  | .hbm, ⟨26, _⟩ => ⟨S4096x8x128, .f32⟩
  | .hbm, ⟨27, _⟩ => ⟨S_, .i32⟩
  | .hbm, ⟨28, _⟩ => ⟨S4096x8x128, .f32⟩
  | .hbm, ⟨29, _⟩ => ⟨S128, .f32⟩
  | .hbm, ⟨30, _⟩ => ⟨S_, .i32⟩
  | .hbm, ⟨31, _⟩ => ⟨S8x128, .f32⟩
  | .hbm, ⟨32, _⟩ => ⟨S4096x8x128, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S1x8x128, .f32⟩
  | .hbm, ⟨38, _⟩ => ⟨S8x128, .f32⟩
  | .hbm, ⟨39, _⟩ => ⟨S1x128, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S1x8x128, .f32⟩
  | .hbm, ⟨44, _⟩ => ⟨S_, .i32⟩
  | .hbm, ⟨45, _⟩ => ⟨S_, .i32⟩
  | .hbm, ⟨46, _⟩ => ⟨S4096x8x128, .f32⟩
  | .hbm, ⟨47, _⟩ => ⟨S_, .i32⟩
  | .hbm, ⟨48, _⟩ => ⟨S_, .i32⟩
  | .hbm, ⟨49, _⟩ => ⟨S8x4096x128, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_c : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_while0c_c_5 : Ref sig .tc := ⟨.hbm, 33, rfl⟩
abbrev main_while0c_v26 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v26 : Ref sig .tc := ⟨.hbm, 38, rfl⟩
abbrev main_while0b_v27 : Ref sig .tc := ⟨.hbm, 39, rfl⟩
abbrev main_while0b_v28 : Ref sig .tc := ⟨.hbm, 40, rfl⟩
abbrev main_while0b_v29 : Ref sig .tc := ⟨.hbm, 41, rfl⟩
abbrev main_while0b_v30 : Ref sig .tc := ⟨.hbm, 42, rfl⟩
abbrev main_while0b_call1_v0 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_v31 : Ref sig .tc := ⟨.hbm, 46, rfl⟩
abbrev main_while0b_c_5 : Ref sig .tc := ⟨.hbm, 47, rfl⟩
abbrev main_while0b_v32 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩

abbrev nD : Nat := 1
abbrev τ : Topo := Topo.v7x

variable {F : FTy → Type} [FloatOps F]

abbrev main_while0_count : Scf.Loop 32 := ⟨0#32, 4096#32, 1#32⟩
-- ==== Proof.Ssm.Algebra.lean ====
/- The algebra of a linear recurrence over the extended reals: a scan by doubling windows gives the state the
   recurrence reaches, when the factor is a non-negative real. -/
module

public import Idealize.ShloMosaic.PureOps.Ideal

@[expose] public section

noncomputable section

namespace Cert.Ssm

open Idealize.ShloMosaic

/-- A factor a scan may move across sums: a non-negative extended real that is not `⊤`. -/
structure Factor (a : EReal) : Prop where
  nonneg : 0 ≤ a
  ne_top : a ≠ ⊤

/-- A factor is a non-negative real. -/
theorem Factor.exists_real {a : EReal} (h : Factor a) : ∃ r : ℝ, 0 ≤ r ∧ a = (r : EReal) := by
  have hb : a ≠ ⊥ := fun e => by have := h.nonneg; rw [e] at this; simp at this
  refine ⟨a.toReal, ?_, (EReal.coe_toReal h.ne_top hb).symm⟩
  have := h.nonneg
  rw [← EReal.coe_toReal h.ne_top hb] at this
  exact_mod_cast this

/-- A non-negative real is a factor. -/
theorem Factor.of_real {r : ℝ} (h : 0 ≤ r) : Factor (r : EReal) := ⟨by exact_mod_cast h, EReal.coe_ne_top r⟩

/-- A power of a factor is a factor. -/
theorem Factor.pow {a : EReal} (h : Factor a) (n : ℕ) : Factor (a ^ n) := by
  obtain ⟨r, hr, rfl⟩ := h.exists_real
  rw [← EReal.coe_pow]
  exact Factor.of_real (pow_nonneg hr n)

/-- A factor distributes over a sum of two. -/
theorem Factor.mul_add {a : EReal} (h : Factor a) (x y : EReal) : a * (x + y) = a * x + a * y :=
  EReal.left_distrib_of_nonneg_of_ne_top h.nonneg h.ne_top x y

/-- A factor distributes over a sum of two, from the right. -/
theorem Factor.add_mul {a : EReal} (h : Factor a) (x y : EReal) : (x + y) * a = x * a + y * a := by
  rw [mul_comm, h.mul_add, mul_comm a x, mul_comm a y]

/-- A factor distributes over a sum over an initial range. -/
theorem Factor.mul_sum {a : EReal} (h : Factor a) (f : ℕ → EReal) :
    ∀ n : ℕ, a * ∑ j ∈ Finset.range n, f j = ∑ j ∈ Finset.range n, a * f j
  | 0 => by simp
  | n + 1 => by rw [Finset.sum_range_succ, Finset.sum_range_succ, h.mul_add, h.mul_sum f n]

/-- One step of the doubling scan on a column: each row takes `p` times the row `n` above it, the rows that have none
    above taking `p` times zero. -/
def doubleStep (p : EReal) (n : ℕ) (s : ℕ → EReal) (r : ℕ) : EReal := s r + p * (if r < n then 0 else s (r - n))

/-- The column after `k` doubling steps: step `k` reaches `2 ^ k` rows up with the factor `a ^ (2 ^ k)`. -/
def doubled (a : EReal) (s : ℕ → EReal) : ℕ → ℕ → EReal
  | 0 => s
  | k + 1 => doubleStep (a ^ 2 ^ k) (2 ^ k) (doubled a s k)

/-- After `k` steps a row holds the sum of the window of the `2 ^ k` rows that end at it, row `j` above weighted by
    `a ^ j`. -/
theorem doubled_eq_window {a : EReal} (h : Factor a) (s : ℕ → EReal) :
    ∀ k r : ℕ, doubled a s k r = ∑ j ∈ Finset.range (min (2 ^ k) (r + 1)), a ^ j * s (r - j)
  | 0, r => by
    have : min 1 (r + 1) = 1 := by omega
    simp [doubled, this]
  | k + 1, r => by
    show doubled a s k r + a ^ 2 ^ k * (if r < 2 ^ k then 0 else doubled a s k (r - 2 ^ k)) = _
    rw [doubled_eq_window h s k r]
    by_cases hr : r < 2 ^ k
    · rw [if_pos hr, mul_zero, add_zero]
      have e1 : min (2 ^ k) (r + 1) = r + 1 := by omega
      have e2 : min (2 ^ (k + 1)) (r + 1) = r + 1 := by rw [pow_succ]; omega
      rw [e1, e2]
    · rw [if_neg hr, doubled_eq_window h s k (r - 2 ^ k), (h.pow _).mul_sum]
      have e1 : min (2 ^ k) (r + 1) = 2 ^ k := by omega
      have e2 : min (2 ^ (k + 1)) (r + 1) = 2 ^ k + min (2 ^ k) (r - 2 ^ k + 1) := by rw [pow_succ]; omega
      rw [e1, e2, Finset.sum_range_add]
      congr 1
      refine Finset.sum_congr rfl fun j _ => ?_
      rw [← mul_assoc, ← pow_add, Nat.sub_sub]

/-- The state of the linear recurrence `h ↦ a * h + x t` from `h0`, before time `t`. -/
def stateAt (a h0 : EReal) (x : ℕ → EReal) : ℕ → EReal
  | 0 => h0
  | t + 1 => a * stateAt a h0 x t + x t

/-- The recurrence restarted at time `t` from its own state goes on as before. -/
theorem stateAt_add (a h0 : EReal) (x : ℕ → EReal) (t : ℕ) :
    ∀ r : ℕ, stateAt a (stateAt a h0 x t) (fun r => x (t + r)) r = stateAt a h0 x (t + r)
  | 0 => rfl
  | r + 1 => by
    show a * _ + _ = a * _ + _
    rw [stateAt_add a h0 x t r]
    rfl

/-- The weighted sum of all rows up to `r`, of a column whose first row has taken `a * h` in, is the recurrence's state
    after row `r`. -/
theorem fullWindow_eq_state {a : EReal} (ha : Factor a) (h : EReal) (x s : ℕ → EReal) (h0 : s 0 = x 0 + a * h)
    (hs : ∀ r, s (r + 1) = x (r + 1)) :
    ∀ r : ℕ, ∑ j ∈ Finset.range (r + 1), a ^ j * s (r - j) = stateAt a h x (r + 1)
  | 0 => by simp [stateAt, h0, add_comm]
  | r + 1 => by
    rw [Finset.sum_range_succ', pow_zero, one_mul, Nat.sub_zero, hs]
    show _ = a * stateAt a h x (r + 1) + x (r + 1)
    rw [← fullWindow_eq_state ha h x s h0 hs r, ha.mul_sum]
    congr 1
    refine Finset.sum_congr rfl fun j _ => ?_
    rw [← mul_assoc, ← pow_succ', Nat.add_sub_add_right]

/-- The doubling scan reaches the recurrence's state at every row its last window covers. -/
theorem doubled_eq_state {a : EReal} (ha : Factor a) (h : EReal) (x s : ℕ → EReal) (h0 : s 0 = x 0 + a * h)
    (hs : ∀ r, s (r + 1) = x (r + 1)) (k r : ℕ) (hr : r < 2 ^ k) :
    doubled a s k r = stateAt a h x (r + 1) := by
  rw [doubled_eq_window ha, show min (2 ^ k) (r + 1) = r + 1 by omega, fullWindow_eq_state ha h x s h0 hs]

/-! ### The step size and the decay are factors -/

/-- The exponential is non-negative. -/
theorem exp_nonneg (z : EReal) : 0 ≤ Ideal.exp z := by
  induction z using EReal.rec with
  | bot => simp
  | top => simp
  | coe r => rw [Ideal.exp_coe]; exact_mod_cast (Real.exp_pos r).le

/-- The step size: the exponential cut off at one. -/
def stepSize (z : EReal) : EReal := min (Ideal.exp z) 1

/-- The decay over one step: the exponential of minus the rate times the step size. -/
def decay (w z : EReal) : EReal := Ideal.exp (-Ideal.exp w * stepSize z)

/-- The step size is a factor. -/
theorem stepSize_factor (z : EReal) : Factor (stepSize z) :=
  ⟨le_min (exp_nonneg z) zero_le_one, fun e => by
    have h : stepSize z ≤ 1 := min_le_right _ _
    rw [e] at h
    exact absurd h (by rw [top_le_iff]; exact EReal.coe_ne_top 1)⟩

/-- The decay is a factor. -/
theorem decay_factor (w z : EReal) : Factor (decay w z) := by
  have hle : -Ideal.exp w * stepSize z ≤ 0 := by
    rw [neg_mul, EReal.neg_le, neg_zero]
    exact mul_nonneg (exp_nonneg w) (stepSize_factor z).nonneg
  refine ⟨exp_nonneg _, ?_⟩
  unfold decay
  generalize -Ideal.exp w * stepSize z = y at hle
  induction y using EReal.rec with
  | bot => simp
  | top => simp at hle
  | coe r => rw [Ideal.exp_coe]; exact EReal.coe_ne_top _

end Cert.Ssm
-- ==== Proof.Ssm.Block.lean ====
/- What one grid point of the kernel computes, over the extended reals: its scan is a linear recurrence down the rows
   of each batch's block, and its output block is the product of those rows with the output weights, plus the bias
   and the direct term. -/
module

public import proofs.«01_k».proof.Proof.Gen.KernelIdeal.Skeleton
public import Idealize.ShloMosaic.Lib.Pipeline.Value
public import Idealize.ShloMosaic.Lib.ValueIdx
public import Idealize.ShloMosaic.Lib.ValueIdxCoords
public import proofs.«01_k».proof.Proof.Ssm.Algebra

@[expose] public section

noncomputable section

namespace Cert.Ssm

open Idealize.ShloMosaic Idealize.ShloMosaic.ValueIdx
open Cert.KernelIdeal Cert.KernelIdeal.Gen

/-- The pattern of the float zero denotes zero. -/
theorem ofBits_zero : Ideal.ofBits .f32 0x00000000#32 = 0 := by simp [Ideal.ofBits, Ideal.ieee]

/-- The pattern of the float one denotes one. -/
theorem ofBits_one : Ideal.ofBits .f32 0x3F800000#32 = 1 := by
  simp [Ideal.ofBits, Ideal.ieee, -EReal.coe_mul]; norm_num

/-! ### The vector operations the grid point is made of -/

/-- One doubling step on a block of rows: the rows moved down by `n`, zeros on top, times `p`, added on. -/
def shiftStep (n m : ℕ) (hs : S256x128.Slices ![0, 0] ⟨2, ![m, 128]⟩)
    (hc : Shape.Concatenates [⟨2, ![n, 128]⟩, ⟨2, ![m, 128]⟩] S256x128 0)
    (p : FVec Ideal S1x128 .f32) (s : FVec Ideal S256x128 .f32) : FVec Ideal S256x128 .f32 :=
  addf s (mulf (broadcastTo S256x128 p broadcasts_S1x128_S256x128)
    (concatenate S256x128 0 [⟨⟨2, ![n, 128]⟩, broadcast ⟨2, ![n, 128]⟩ (Scalar.ofBits (F := Ideal) .f32 0x00000000#32)⟩,
      ⟨⟨2, ![m, 128]⟩, extractStridedSlice ⟨2, ![m, 128]⟩ ![0, 0] s hs⟩] hc))

/-- The row `a` squared `k` times. -/
def squared (a : FVec Ideal S1x128 .f32) : ℕ → FVec Ideal S1x128 .f32
  | 0 => a
  | k + 1 => mulf (squared a k) (squared a k)

/-- The eight doubling steps. -/
def scanRows (a : FVec Ideal S1x128 .f32) (s : FVec Ideal S256x128 .f32) : FVec Ideal S256x128 .f32 :=
  shiftStep 128 128 slices_S256x128_o0_0_S128x128 concatenates_S128x128_S128x128_S256x128_d0 (squared a 7) <|
  shiftStep 64 192 slices_S256x128_o0_0_S192x128 concatenates_S64x128_S192x128_S256x128_d0 (squared a 6) <|
  shiftStep 32 224 slices_S256x128_o0_0_S224x128 concatenates_S32x128_S224x128_S256x128_d0 (squared a 5) <|
  shiftStep 16 240 slices_S256x128_o0_0_S240x128 concatenates_S16x128_S240x128_S256x128_d0 (squared a 4) <|
  shiftStep 8 248 slices_S256x128_o0_0_S248x128 concatenates_S8x128_S248x128_S256x128_d0 (squared a 3) <|
  shiftStep 4 252 slices_S256x128_o0_0_S252x128 concatenates_S4x128_S252x128_S256x128_d0 (squared a 2) <|
  shiftStep 2 254 slices_S256x128_o0_0_S254x128 concatenates_S2x128_S254x128_S256x128_d0 (squared a 1) <|
  shiftStep 1 255 slices_S256x128_o0_0_S255x128 concatenates_S1x128_S255x128_S256x128_d0 (squared a 0) s

/-- The carried row taken into the first row of a block. -/
def seedRow (a h : FVec Ideal S1x128 .f32) (s : FVec Ideal S256x128 .f32) : FVec Ideal S256x128 .f32 :=
  concatenate S256x128 0 [⟨S1x128, addf (extractStridedSlice S1x128 ![0, 0] s slices_S256x128_o0_0_S1x128) (mulf a h)⟩,
    ⟨S255x128, extractStridedSlice S255x128 ![1, 0] s slices_S256x128_o1_0_S255x128⟩] concatenates_S1x128_S255x128_S256x128_d0

/-- Row `r` of batch `b` among the rows of all eight. -/
def rowAt (b : Fin 8) (r : Fin 256) : Fin 2048 := ⟨256 * b.val + r.val, by omega⟩

/-- Batch `b`'s 256 rows of the 2048 lie in them. -/
theorem slices_batch (b : Fin 8) : S2048x128.Slices ![256 * b.val, 0] S256x128 := by revert b; decide

/-- Batch `b`'s block of the eight lies in them. -/
theorem slices_slab (b : Fin 8) : S8x256x1024.Slices ![b.val, 0, 0] S1x256x1024 := by revert b; decide

/-- The rows batch `b` leaves: its slice of the projected inputs `bu`, seeded with the carried row and scanned. -/
def batchRows (b : Fin 8) (a h : FVec Ideal S1x128 .f32) (bu : FVec Ideal S2048x128 .f32) : FVec Ideal S256x128 .f32 :=
  scanRows a (seedRow a h (extractStridedSlice S256x128 ![256 * b.val, 0] bu (slices_batch b)))

/-- The last of the rows, which the next grid point goes on from. -/
def lastRow (s : FVec Ideal S256x128 .f32) : FVec Ideal S1x128 .f32 :=
  shapeCast S1x128 (extractStridedSlice S1x128 ![255, 0] s slices_S256x128_o255_0_S1x128) shapeCasts_S1x128_S1x128

/-- Batch `b`'s block of the output, from its rows `s`. -/
def outBlock (b : Fin 8) (u : FVec Ideal S8x256x1024 .f32) (s : FVec Ideal S256x128 .f32) (w : FVec Ideal S128x1024 .f32)
    (cb d : FVec Ideal S1x1024 .f32) : FVec Ideal S1x256x1024 .f32 :=
  shapeCast S1x256x1024
    (addf (addf (matmul dot_S256x128_S128x1024_S256x1024_1_0_0_1_n_n none s
          (shapeCast S128x1024 w shapeCasts_S128x1024_S128x1024) (constant S256x1024 .f32 0x00000000#32))
        (broadcastTo S256x1024 (shapeCast S1x1024 cb shapeCasts_S1x1024_S1x1024) broadcasts_S1x1024_S256x1024))
      (mulf (broadcastTo S256x1024 (shapeCast S1x1024 d shapeCasts_S1x1024_S1x1024) broadcasts_S1x1024_S256x1024)
        (shapeCast S256x1024 (extractStridedSlice S1x256x1024 ![b.val, 0, 0] u (slices_slab b)) shapeCasts_S1x256x1024_S256x1024)))
    shapeCasts_S256x1024_S1x256x1024

/-! ### Read at an index -/

/-- A row broadcast down a block reads that row. -/
theorem broadcastRow_apply {n c : ℕ} (hc : c ≠ 1) (p : FVec Ideal ⟨2, ![1, c]⟩ .f32) (h : (⟨2, ![1, c]⟩ : Shape).Broadcasts ⟨2, ![n, c]⟩)
    (r : Fin n) (k : Fin c) : broadcastTo ⟨2, ![n, c]⟩ p h (ix2 r k) = p (ix2 u0 k) := by
  refine broadcastTo_apply p h (ix2 r k) (ix2 u0 k) fun a => ?_
  match a with
  | ⟨0, _⟩ => rfl
  | ⟨1, _⟩ => exact (if_neg hc).symm

/-- A doubling step on a block of rows is `doubleStep` on each of its columns. -/
theorem shiftStep_apply {n m : ℕ} (hnm : n + m = 256) (hs) (hc) (p : FVec Ideal S1x128 .f32) (s : FVec Ideal S256x128 .f32)
    (c : Fin 128) (X : ℕ → EReal) (hX : ∀ r : Fin 256, s (ix2 r c) = X r) (r : Fin 256) :
    shiftStep n m hs hc p s (ix2 r c) = doubleStep (p (ix2 u0 c)) n X r := by
  unfold shiftStep doubleStep
  rw [addf_apply, mulf_apply, hX r]
  congr 1
  refine congrArg₂ (· * ·) (broadcastRow_apply (by decide) p _ r c) ?_
  by_cases hr : r.val < n
  · rw [if_pos hr]
    refine (concatenate_pair_apply_left (s₁ := ⟨2, ![n, 128]⟩) (s₂ := ⟨2, ![m, 128]⟩) (t := S256x128) 0 _ _ hc (ix2 r c) rfl
      (ix2 ⟨r.val, hr⟩ c) fun a => ?_).trans ofBits_zero
    match a with
    | ⟨0, _⟩ => rfl
    | ⟨1, _⟩ => rfl
  · rw [if_neg hr]
    have hlt := r.isLt
    refine (concatenate_pair_apply_right (s₁ := ⟨2, ![n, 128]⟩) (s₂ := ⟨2, ![m, 128]⟩) (t := S256x128) 0 _ _ hc (ix2 r c) rfl rfl
      (ix2 ⟨r.val - n, by omega⟩ c) (fun a ha => ?_) ?_).trans ?_
    · match a with
      | ⟨0, _⟩ => exact absurd rfl ha
      | ⟨1, _⟩ => rfl
    · show r.val - n + n = r.val
      omega
    · refine (extractStridedSlice_apply _ s hs _ (ix2 ⟨r.val - n, by omega⟩ c) fun a => ?_).trans (hX _)
      match a with
      | ⟨0, _⟩ => exact (Nat.zero_add _).symm
      | ⟨1, _⟩ => exact (Nat.zero_add _).symm

/-- A row squared `k` times holds the powers `2 ^ k`. -/
theorem squared_apply (a : FVec Ideal S1x128 .f32) (j : S1x128.Idx) : ∀ k : ℕ, squared a k j = (a j : EReal) ^ 2 ^ k
  | 0 => (pow_one _).symm
  | k + 1 => by
    show (squared a k j : EReal) * squared a k j = _
    rw [squared_apply a j k, ← pow_add, pow_succ, Nat.mul_two]

/-- The eight doubling steps on a block of rows are the doubling scan of each of its columns. -/
theorem scanRows_apply (a : FVec Ideal S1x128 .f32) (s : FVec Ideal S256x128 .f32) (c : Fin 128) (X : ℕ → EReal)
    (hX : ∀ r : Fin 256, s (ix2 r c) = X r) (r : Fin 256) :
    scanRows a s (ix2 r c) = doubled (a (ix2 u0 c)) X 8 r := by
  have step : ∀ {n m k : ℕ} (_ : n + m = 256) (_ : n = 2 ^ k) (hs) (hc) (s' : FVec Ideal S256x128 .f32)
      (_ : ∀ r : Fin 256, s' (ix2 r c) = doubled (a (ix2 u0 c)) X k r) (r : Fin 256),
      shiftStep n m hs hc (squared a k) s' (ix2 r c) = doubled (a (ix2 u0 c)) X (k + 1) r := by
    intro n m k hnm hn hs hc s' h r
    rw [shiftStep_apply hnm hs hc _ s' c _ h r, squared_apply, hn]
    rfl
  unfold scanRows
  refine step rfl rfl _ _ _ (fun r => ?_) r
  refine step rfl rfl _ _ _ (fun r => ?_) r
  refine step rfl rfl _ _ _ (fun r => ?_) r
  refine step rfl rfl _ _ _ (fun r => ?_) r
  refine step rfl rfl _ _ _ (fun r => ?_) r
  refine step rfl rfl _ _ _ (fun r => ?_) r
  refine step rfl rfl _ _ _ (fun r => ?_) r
  exact step (k := 0) rfl rfl _ _ _ hX r

/-- The seeded block: its first row has taken the carried row in, the others are as they were. -/
theorem seedRow_apply (a h : FVec Ideal S1x128 .f32) (s : FVec Ideal S256x128 .f32) (r : Fin 256) (c : Fin 128) :
    seedRow a h s (ix2 r c) = if r.val = 0 then s (ix2 r c) + a (ix2 u0 c) * h (ix2 u0 c) else s (ix2 r c) := by
  unfold seedRow
  by_cases hr : r.val = 0
  · rw [if_pos hr]
    refine (concatenate_pair_apply_left (s₁ := S1x128) (s₂ := S255x128) (t := S256x128) 0 _ _ _ (ix2 r c) rfl
      (ix2 u0 c) fun b => ?_).trans ?_
    · match b with
      | ⟨0, _⟩ => exact hr.symm
      | ⟨1, _⟩ => rfl
    · rw [addf_apply, mulf_apply]
      congr 1
      refine extractStridedSlice_apply _ s _ _ (ix2 r c) fun b => ?_
      match b with
      | ⟨0, _⟩ => exact hr
      | ⟨1, _⟩ => exact (Nat.zero_add _).symm
  · rw [if_neg hr]
    have hlt := r.isLt
    refine (concatenate_pair_apply_right (s₁ := S1x128) (s₂ := S255x128) (t := S256x128) 0 _ _ _ (ix2 r c) rfl rfl
      (ix2 ⟨r.val - 1, by omega⟩ c) (fun b hb => ?_) ?_).trans ?_
    · match b with
      | ⟨0, _⟩ => exact absurd rfl hb
      | ⟨1, _⟩ => rfl
    · show r.val - 1 + 1 = r.val
      omega
    · refine extractStridedSlice_apply _ s _ _ (ix2 r c) fun b => ?_
      match b with
      | ⟨0, _⟩ => show r.val = 1 + (r.val - 1); omega
      | ⟨1, _⟩ => exact (Nat.zero_add _).symm

/-- Batch `b`'s row `r` is the state of the linear recurrence after `r + 1` steps from the carried row. -/
theorem batchRows_apply (b : Fin 8) (a h : FVec Ideal S1x128 .f32) (bu : FVec Ideal S2048x128 .f32) (c : Fin 128)
    (ha : Factor (a (ix2 u0 c))) (x : ℕ → EReal)
    (hx : ∀ r : Fin 256, bu (ix2 (rowAt b r) c) = x r) (r : Fin 256) :
    batchRows b a h bu (ix2 r c) = stateAt (a (ix2 u0 c)) (h (ix2 u0 c)) x (r.val + 1) := by
  have hslice : ∀ r : Fin 256, extractStridedSlice S256x128 ![256 * b.val, 0] bu (slices_batch b) (ix2 r c) = x r := fun r => by
    refine (extractStridedSlice_apply _ bu _ _ (ix2 (rowAt b r) c) fun d => ?_).trans (hx r)
    match d with
    | ⟨0, _⟩ => rfl
    | ⟨1, _⟩ => exact (Nat.zero_add _).symm
  unfold batchRows
  rw [scanRows_apply a _ c (fun k => if k = 0 then x k + a (ix2 u0 c) * h (ix2 u0 c) else x k) (fun r => ?_) r]
  · exact doubled_eq_state ha (h (ix2 u0 c)) x (fun k => if k = 0 then x k + a (ix2 u0 c) * h (ix2 u0 c) else x k)
      (if_pos rfl) (fun k => if_neg (Nat.succ_ne_zero k)) 8 r.val r.isLt
  · rw [seedRow_apply, hslice]

/-- The last row is row 255. -/
theorem lastRow_apply (s : FVec Ideal S256x128 .f32) (c : Fin 128) : lastRow s (ix2 u0 c) = s (ix2 ⟨255, by decide⟩ c) := by
  unfold lastRow
  rw [shapeCast_self]
  refine extractStridedSlice_apply _ s _ _ _ fun d => ?_
  match d with
  | ⟨0, _⟩ => rfl
  | ⟨1, _⟩ => exact (Nat.zero_add _).symm

/-! ### The two products -/

/-- The input product's dimension numbers. -/
abbrev Din := dot_S2048x1024_S1024x128_S2048x128_1_0_0_1_n_n

/-- The output product's dimension numbers. -/
abbrev Dout := dot_S256x128_S128x1024_S256x1024_1_0_0_1_n_n

/-- The input product at an index: the accumulator plus the sum over the 1024 features. -/
theorem matmul_in_apply (x : FVec Ideal S2048x1024 .f32) (w : FVec Ideal S1024x128 .f32) (acc : FVec Ideal S2048x128 .f32)
    (r : Fin 2048) (c : Fin 128) :
    matmul Din none x w acc (ix2 r c) = acc (ix2 r c) + ∑ k : Fin 1024, x (ix2 r k) * w (ix2 k c) := by
  show acc (ix2 r c) + ∑ q : Din.contr.Idx, x (Din.lhsIdx (ix2 r c) q) * w (Din.rhsIdx (ix2 r c) q) = _
  congr 1
  rw [← (contrEquiv1 Din 1024 rfl rfl).symm.sum_comp]
  refine Finset.sum_congr rfl fun k _ => ?_
  congr 2
  · refine Shape.idx_ext₂ ?_ ?_
    · simp [DotDims.lhsIdx, Din, dot_S2048x1024_S1024x128_S2048x128_1_0_0_1_n_n]; rfl
    · simp [DotDims.lhsIdx, Din, dot_S2048x1024_S1024x128_S2048x128_1_0_0_1_n_n]; rfl
  · refine Shape.idx_ext₂ ?_ ?_
    · simp [DotDims.rhsIdx, Din, dot_S2048x1024_S1024x128_S2048x128_1_0_0_1_n_n]; rfl
    · simp [DotDims.rhsIdx, Din, dot_S2048x1024_S1024x128_S2048x128_1_0_0_1_n_n]; rfl

/-- The output product at an index: the accumulator plus the sum over the 128 states. -/
theorem matmul_out_apply (x : FVec Ideal S256x128 .f32) (w : FVec Ideal S128x1024 .f32) (acc : FVec Ideal S256x1024 .f32)
    (r : Fin 256) (c : Fin 1024) :
    matmul Dout none x w acc (ix2 r c) = acc (ix2 r c) + ∑ k : Fin 128, x (ix2 r k) * w (ix2 k c) := by
  show acc (ix2 r c) + ∑ q : Dout.contr.Idx, x (Dout.lhsIdx (ix2 r c) q) * w (Dout.rhsIdx (ix2 r c) q) = _
  congr 1
  rw [← (contrEquiv1 Dout 128 rfl rfl).symm.sum_comp]
  refine Finset.sum_congr rfl fun k _ => ?_
  congr 2
  · refine Shape.idx_ext₂ ?_ ?_
    · simp [DotDims.lhsIdx, Dout, dot_S256x128_S128x1024_S256x1024_1_0_0_1_n_n]; rfl
    · simp [DotDims.lhsIdx, Dout, dot_S256x128_S128x1024_S256x1024_1_0_0_1_n_n]; rfl
  · refine Shape.idx_ext₂ ?_ ?_
    · simp [DotDims.rhsIdx, Dout, dot_S256x128_S128x1024_S256x1024_1_0_0_1_n_n]; rfl
    · simp [DotDims.rhsIdx, Dout, dot_S256x128_S128x1024_S256x1024_1_0_0_1_n_n]; rfl

/-- Batch `b`'s output block at an index. -/
theorem outBlock_apply (b : Fin 8) (u : FVec Ideal S8x256x1024 .f32) (s : FVec Ideal S256x128 .f32) (w : FVec Ideal S128x1024 .f32)
    (cb d : FVec Ideal S1x1024 .f32) (r : Fin 256) (k : Fin 1024) :
    outBlock b u s w cb d (ix3 u0 r k) =
      (∑ n : Fin 128, s (ix2 r n) * w (ix2 n k)) + cb (ix2 u0 k) + d (ix2 u0 k) * u (ix3 b r k) := by
  unfold outBlock
  refine (shapeCast_apply _ _ _ (ix2 r k) ?_).trans ?_
  · rw [Shape.rowMajor_val_two, Shape.rowMajor_val_three]
    show r.val * 1024 + k.val = (0 * 256 + r.val) * 1024 + k.val
    omega
  rw [addf_apply, addf_apply, mulf_apply, matmul_out_apply, shapeCast_self, shapeCast_self, shapeCast_self, constant_apply,
    ofBits_zero, zero_add]
  refine congrArg₂ (· + ·) (congrArg₂ (· + ·) rfl (broadcastRow_apply (by decide) cb _ r k))
    (congrArg₂ (· * ·) (broadcastRow_apply (by decide) d _ r k) ?_)
  refine (shapeCast_apply _ _ _ (ix3 u0 r k) ?_).trans ?_
  · rw [Shape.rowMajor_val_two, Shape.rowMajor_val_three]
    show (0 * 256 + r.val) * 1024 + k.val = r.val * 1024 + k.val
    omega
  refine extractStridedSlice_apply _ u _ _ (ix3 b r k) fun a => ?_
  match a with
  | ⟨0, _⟩ => rfl
  | ⟨1, _⟩ => exact (Nat.zero_add _).symm
  | ⟨2, _⟩ => exact (Nat.zero_add _).symm

/-! ### The step size, the decay and the projected inputs the grid point computes -/

/-- The step size at a state. -/
theorem pay2_apply (v0 : FVec Ideal S1x128 .f32) (j : S1x128.Idx) : k0_pay2 (F := Ideal) v0 j = stepSize (v0 j) := by
  unfold k0_pay2
  simp only [shapeCast_self]
  show min (Ideal.exp (v0 j)) (Ideal.ofBits .f32 0x3F800000#32) = _
  rw [ofBits_one]
  rfl

/-- The decay at a state. -/
theorem pay3_apply (v0 v5 : FVec Ideal S1x128 .f32) (j : S1x128.Idx) :
    k0_pay3 (F := Ideal) v0 v5 j = decay (v5 j) (v0 j) := by
  unfold k0_pay3
  simp only [shapeCast_self]
  show Ideal.exp ((Ideal.ofBits .f32 0x00000000#32 - Ideal.exp (v5 j)) * k0_pay2 (F := Ideal) v0 j) = _
  rw [ofBits_zero, zero_sub, pay2_apply]
  rfl

/-- The projected input of batch `b`'s row `r` at a state: the product with the input weights and the bias, both times
    the step size. -/
theorem pay5_apply (v0 v12 : FVec Ideal S1x128 .f32) (v18 : FVec Ideal S8x256x1024 .f32) (v20 : FVec Ideal S1024x128 .f32)
    (b : Fin 8) (r : Fin 256) (c : Fin 128) :
    k0_pay5 (F := Ideal) v0 v12 v18 v20 (ix2 (rowAt b r) c) =
      ((∑ k : Fin 1024, v18 (ix3 b r k) * v20 (ix2 k c)) + v12 (ix2 u0 c)) * stepSize (v0 (ix2 u0 c)) := by
  unfold k0_pay5
  simp only [shapeCast_self]
  rw [addf_apply, mulf_apply, (stepSize_factor _).add_mul, matmul_in_apply, constant_apply, ofBits_zero, zero_add]
  refine congrArg₂ (· + ·) (congrArg₂ (· * ·) (Finset.sum_congr rfl fun k _ => congrArg₂ (· * ·) ?_ rfl) ?_) ?_
  · refine shapeCast_apply _ _ _ (ix3 b r k) ?_
    rw [Shape.rowMajor_val_two, Shape.rowMajor_val_three]
    show (b.val * 256 + r.val) * 1024 + k.val = (256 * b.val + r.val) * 1024 + k.val
    omega
  · exact (broadcastRow_apply (by decide) _ _ _ c).trans (pay2_apply v0 _)
  · refine (broadcastRow_apply (by decide) _ _ _ c).trans ?_
    rw [mulf_apply, pay2_apply]

end Cert.Ssm
-- ==== Proof.Ssm.Pieces.lean ====
/- What one grid point of the kernel stores, batch by batch: eight blocks of the output, and eight rows of the carried
   state. -/
module

public import proofs.«01_k».proof.Proof.Gen.KernelIdeal.Value
public import Idealize.ShloMosaic.Lib.Pipeline.ReadBack
public import proofs.«01_k».proof.Proof.Ssm.Block

@[expose] public section

-- membership in a rectangle of production extents
set_option maxRecDepth 16384

noncomputable section

namespace Cert.Ssm

open Idealize.ShloMosaic Idealize.ShloMosaic.ValueIdx Idealize.ShloMosaic.TcCoe Idealize.ShloMosaic.Tactic
open Cert.KernelIdeal Cert.KernelIdeal.Gen

/-- Batch `b`'s row lies in the eight carried rows. -/
theorem inb_row (b : Fin 8) : ∀ a, (![b.val, 0] : Fin 2 → Nat) a + S1x128.size a ≤ S8x128.size a := by revert b; decide

/-- Batch `b`'s block lies in the output block of a grid point. -/
theorem inb_slab (b : Fin 8) : ∀ a, (![b.val, 0, 0] : Fin 3 → Nat) a + S1x256x1024.size a ≤ S8x256x1024.size a := by
  revert b; decide

/-- Batch `b`'s row of the carried state. -/
def rowOf (X : FVec Ideal S8x128 .f32) (b : Fin 8) : FVec Ideal S1x128 .f32 :=
  View.ld (Val := Elt Ideal) (e' := .f32) X (Rect.unit (s := S8x128) ![b.val, 0] S1x128.size (inb_row b))

/-- Batch `b`'s store into the output block, from the carried state `h`. -/
def outPiece (u : FVec Ideal S8x256x1024 .f32) (a : FVec Ideal S1x128 .f32) (bu : FVec Ideal S2048x128 .f32)
    (w : FVec Ideal S128x1024 .f32) (cb d : FVec Ideal S1x1024 .f32) (h : FVec Ideal S8x128 .f32) (b : Fin 8) :
    View.Piece (Elt Ideal) S8x256x1024 .f32 :=
  ⟨Rect.unit ![b.val, 0, 0] S1x256x1024.size (inb_slab b), outBlock b u (batchRows b a (rowOf h b) bu) w cb d⟩

/-- Batch `b`'s store into the carried state, from the carried state `h` before. -/
def rowPiece (a : FVec Ideal S1x128 .f32) (bu : FVec Ideal S2048x128 .f32) (h : FVec Ideal S8x128 .f32) (b : Fin 8) :
    View.Piece (Elt Ideal) S8x128 .f32 :=
  ⟨Rect.unit ![b.val, 0] S1x128.size (inb_row b), lastRow (batchRows b a (rowOf h b) bu)⟩

/-- The eight batches' values, the last batch's first. -/
def eight {α : Type} (f : Fin 8 → α) : List α := [f 7, f 6, f 5, f 4, f 3, f 2, f 1, f 0]

/-- Each of them is one batch's value. -/
theorem mem_eight {α : Type} {f : Fin 8 → α} {x : α} (h : x ∈ eight f) : ∃ b, x = f b := by
  simp only [eight, List.mem_cons, List.not_mem_nil, or_false] at h
  rcases h with h | h | h | h | h | h | h | h <;> exact ⟨_, h⟩

/-- Each batch's value is among them. -/
theorem eight_mem {α : Type} (f : Fin 8 → α) (b : Fin 8) : f b ∈ eight f := by
  unfold eight
  match b with
  | 0 | 1 | 2 | 3 | 4 | 5 | 6 | 7 => simp

private theorem zeros2 : (![0, 0] : Fin 2 → Nat) = fun _ => 0 := by funext a; match a with | 0 | 1 => rfl
private theorem zeros3 : (![0, 0, 0] : Fin 3 → Nat) = fun _ => 0 := by funext a; match a with | 0 | 1 | 2 => rfl

/-- A load of a whole matrix reads it. -/
theorem ld_whole2 {n m : ℕ} (inb) (X : (⟨2, ![n, m]⟩ : Shape).Idx → Elt Ideal .f32) :
    View.ld (Val := Elt Ideal) (e' := .f32) X (Rect.unit (s := ⟨2, ![n, m]⟩) ![0, 0] ![n, m] inb) = X :=
  View.ld_unit_zero (S := ⟨2, ![n, m]⟩) zeros2 inb X

/-- A load of a whole array of three axes reads it. -/
theorem ld_whole3 {n m k : ℕ} (inb) (X : (⟨3, ![n, m, k]⟩ : Shape).Idx → Elt Ideal .f32) :
    View.ld (Val := Elt Ideal) (e' := .f32) X (Rect.unit (s := ⟨3, ![n, m, k]⟩) ![0, 0, 0] ![n, m, k] inb) = X :=
  View.ld_unit_zero (S := ⟨3, ![n, m, k]⟩) zeros3 inb X

section Stores

variable (c : Dev nD) (i : grid0.Coords)
  (arg2 : Memref sig .tc .vmem S8x256x1024 .f32) (harg2 : arg2.IsWhole) (arg3 : Memref sig .tc .vmem S1x8x128 .f32) (harg3 : arg3.IsWhole)
  (arg4 : Memref sig .tc .vmem S1x128 .f32) (harg4 : arg4.IsWhole) (arg5 : Memref sig .tc .vmem S1x128 .f32) (harg5 : arg5.IsWhole)
  (arg6 : Memref sig .tc .vmem S1x128 .f32) (harg6 : arg6.IsWhole) (arg7 : Memref sig .tc .vmem S1024x128 .f32) (harg7 : arg7.IsWhole)
  (arg8 : Memref sig .tc .vmem S128x1024 .f32) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S8x256x1024 .f32) (harg11 : arg11.IsWhole)
  (arg12 : Memref sig .tc .vmem S8x128 .f32) (harg12 : arg12.IsWhole)
  (x0 : FVec Ideal S8x256x1024 .f32) (x1 : FVec Ideal S1x8x128 .f32) (x2 x3 x4 : FVec Ideal S1x128 .f32) (x5 : FVec Ideal S1024x128 .f32)
  (x6 : FVec Ideal S128x1024 .f32) (x7 x8 : FVec Ideal S1x1024 .f32) (xs0 : FVec Ideal S8x128 .f32)

/-- The output blocks a grid point after the first stores. -/
theorem outPieces_B (hc0 : ¬cond0_0 i) :
    (kernelRun0_B (F := Ideal) c i arg2 harg2 arg3 harg3 arg4 harg4 arg5 harg5 arg6 harg6 arg7 harg7 arg8 harg8 arg9 harg9 arg10 harg10 arg11
      harg11 arg12 harg12 hc0 x0 x1 x2 x3 x4 x5 x6 x7 x8 xs0).1
      = eight (outPiece x0 (k0_pay3 x3 x2) (k0_pay5 x3 x4 x0 x5) x6 x7 x8 xs0) := by
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg12.read_unread,
    ld_whole2, ld_whole3]
  rfl

/-- The carried rows a grid point after the first stores. -/
theorem rowPieces_B (hc0 : ¬cond0_0 i) :
    (kernelRun0_B (F := Ideal) c i arg2 harg2 arg3 harg3 arg4 harg4 arg5 harg5 arg6 harg6 arg7 harg7 arg8 harg8 arg9 harg9 arg10 harg10 arg11
      harg11 arg12 harg12 hc0 x0 x1 x2 x3 x4 x5 x6 x7 x8 xs0).2.1
      = eight (rowPiece (k0_pay3 x3 x2) (k0_pay5 x3 x4 x0 x5) xs0) := by
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg12.read_unread,
    ld_whole2, ld_whole3]
  rfl

/-- The output blocks the first grid point stores: it starts from the initial state. -/
theorem outPieces_A (hc0 : cond0_0 i) :
    (kernelRun0_A (F := Ideal) c i arg2 harg2 arg3 harg3 arg4 harg4 arg5 harg5 arg6 harg6 arg7 harg7 arg8 harg8 arg9 harg9 arg10 harg10 arg11
      harg11 arg12 harg12 hc0 x0 x1 x2 x3 x4 x5 x6 x7 x8).1
      = eight (outPiece x0 (k0_pay3 x3 x2) (k0_pay5 x3 x4 x0 x5) x6 x7 x8 (k0_pay4 x1)) := by
  unfold kernelRun0_A
  dsimp only
  sl_unfold_words
  simp (decide := true) only [View.readAt_eq_ld, harg2.read_unread, harg3.read_unread, harg4.read_unread, harg5.read_unread, harg6.read_unread,
    harg7.read_unread, harg8.read_unread, harg9.read_unread, harg10.read_unread,
    ld_whole2, ld_whole3, ↓View.readCov_skip, View.readCov_fill]
  rfl

/-- The carried rows the first grid point stores, over the initial state. -/
theorem rowPieces_A (hc0 : cond0_0 i) :
    (kernelRun0_A (F := Ideal) c i arg2 harg2 arg3 harg3 arg4 harg4 arg5 harg5 arg6 harg6 arg7 harg7 arg8 harg8 arg9 harg9 arg10 harg10 arg11
      harg11 arg12 harg12 hc0 x0 x1 x2 x3 x4 x5 x6 x7 x8).2.1
      = eight (rowPiece (k0_pay3 x3 x2) (k0_pay5 x3 x4 x0 x5) (k0_pay4 x1))
        ++ [(⟨Rect.unit (s := S8x128) ![0, 0] S8x128.size inb_S8x128_S8x128_0_0, k0_pay4 (F := Ideal) x1⟩ : View.Piece (Elt Ideal) S8x128 .f32)] := by
  unfold kernelRun0_A
  dsimp only
  sl_unfold_words
  simp (decide := true) only [View.readAt_eq_ld, harg2.read_unread, harg3.read_unread, harg4.read_unread, harg5.read_unread, harg6.read_unread,
    harg7.read_unread, harg8.read_unread, harg9.read_unread, harg10.read_unread,
    ld_whole2, ld_whole3, ↓View.readCov_skip, View.readCov_fill]
  rfl

end Stores

end Cert.Ssm
-- ==== Proof.Ssm.Point.lean ====
/- What one grid point of the kernel leaves, read at an index: the output block and the carried rows, as states of the
   recurrence. -/
module

public import proofs.«01_k».proof.Proof.Ssm.Pieces

@[expose] public section

noncomputable section

namespace Cert.Ssm

open Idealize.ShloMosaic Idealize.ShloMosaic.ValueIdx Idealize.ShloMosaic.TcCoe
open Cert.KernelIdeal Cert.KernelIdeal.Gen

/-- Batch `b`'s row of the carried state, at lane `c`. -/
theorem rowOf_apply (X : FVec Ideal S8x128 .f32) (b : Fin 8) (c : Fin 128) : rowOf X b (ix2 u0 c) = X (ix2 b c) := by
  unfold rowOf
  show X ((Rect.unit (s := S8x128) ![b.val, 0] S1x128.size (inb_row b)).emb (ix2 u0 c)) = _
  congr 1
  funext d
  apply Fin.ext
  match d with
  | ⟨0, _⟩ => show b.val + 1 * 0 = b.val; omega
  | ⟨1, _⟩ => show 0 + 1 * c.val = c.val; omega

/-- A batch's row of the carried state, placed in it. -/
theorem emb_row (b : Fin 8) (c : Fin 128) :
    (Rect.unit (s := S8x128) ![b.val, 0] S1x128.size (inb_row b)).emb (ix2 u0 c) = ix2 b c := by
  funext d
  apply Fin.ext
  match d with
  | ⟨0, _⟩ => show b.val + 1 * 0 = b.val; omega
  | ⟨1, _⟩ => show 0 + 1 * c.val = c.val; omega

/-- A batch's block of the output, placed in it. -/
theorem emb_slab (b : Fin 8) (r : Fin 256) (k : Fin 1024) :
    (Rect.unit (s := S8x256x1024) ![b.val, 0, 0] S1x256x1024.size (inb_slab b)).emb (ix3 u0 r k) = ix3 b r k := by
  funext d
  apply Fin.ext
  match d with
  | ⟨0, _⟩ => show b.val + 1 * 0 = b.val; omega
  | ⟨1, _⟩ => show 0 + 1 * r.val = r.val; omega
  | ⟨2, _⟩ => show 0 + 1 * k.val = k.val; omega

section Reads

variable (a : FVec Ideal S1x128 .f32) (bu : FVec Ideal S2048x128 .f32) (h : FVec Ideal S8x128 .f32)

/-- The output block as one function of its index. -/
def outFn (u : FVec Ideal S8x256x1024 .f32) (w : FVec Ideal S128x1024 .f32) (cb d : FVec Ideal S1x1024 .f32) :
    FVec Ideal S8x256x1024 .f32 :=
  fun y => outBlock (y 0) u (batchRows (y 0) a (rowOf h (y 0)) bu) w cb d (ix3 u0 (y 1) (y 2))

/-- The carried rows as one function of their index. -/
def rowFn : FVec Ideal S8x128 .f32 := fun y => lastRow (batchRows (y 0) a (rowOf h (y 0)) bu) (ix2 u0 (y 1))

variable
  (ha : ∀ n : Fin 128, Factor (a (ix2 u0 n))) (x : Fin 8 → Fin 128 → ℕ → EReal)
  (hx : ∀ (b : Fin 8) (n : Fin 128) (r : Fin 256), bu (ix2 (rowAt b r) n) = x b n r)
include ha hx

/-- The scanned rows of a batch are the states after its carried row. -/
theorem batchRows_state (b : Fin 8) (n : Fin 128) (r : Fin 256) :
    batchRows b a (rowOf h b) bu (ix2 r n) = stateAt (a (ix2 u0 n)) (h (ix2 b n)) (x b n) (r.val + 1) := by
  rw [batchRows_apply b a (rowOf h b) bu n (ha n) (x b n) (hx b n) r, rowOf_apply]

/-- The output block made of the eight batches' stores, at an index. -/
theorem outPieces_apply (u : FVec Ideal S8x256x1024 .f32) (w : FVec Ideal S128x1024 .f32) (cb d : FVec Ideal S1x1024 .f32)
    (b : Fin 8) (r : Fin 256) (k : Fin 1024) :
    View.canon (eight (outPiece u a bu w cb d h)) (ix3 b r k) =
      (∑ n : Fin 128, stateAt (a (ix2 u0 n)) (h (ix2 b n)) (x b n) (r.val + 1) * w (ix2 n k)) + cb (ix2 u0 k)
        + d (ix2 u0 k) * u (ix3 b r k) := by
  refine View.canon_apply_of_pieces (outFn a bu h u w cb d) _ (fun p hp => ?_) (ix3 b r k) ⟨_, eight_mem _ b, ?_⟩ |>.trans ?_
  · obtain ⟨b', rfl⟩ := mem_eight hp
    intro j
    obtain ⟨j0, j1, j2, rfl⟩ : ∃ (j0 : Fin 1) (j1 : Fin 256) (j2 : Fin 1024), j = ix3 j0 j1 j2 := ⟨j 0, j 1, j 2, eq_ix3 j⟩
    obtain rfl : j0 = u0 := Subsingleton.elim _ _
    exact (congrArg (outFn a bu h u w cb d) (emb_slab b' j1 j2)).symm
  · refine (Rect.mem_set_unit (inb := inb_slab b)).mpr fun e => ?_
    match e with
    | ⟨0, _⟩ => exact ⟨le_refl b.val, Nat.lt_succ_self b.val⟩
    | ⟨1, _⟩ => exact ⟨Nat.zero_le _, (Nat.zero_add 256).symm ▸ r.isLt⟩
    | ⟨2, _⟩ => exact ⟨Nat.zero_le _, (Nat.zero_add 1024).symm ▸ k.isLt⟩
  · show outBlock b u (batchRows b a (rowOf h b) bu) w cb d (ix3 u0 r k) = _
    rw [outBlock_apply]
    simp only [batchRows_state a bu h ha x hx]

/-- The carried rows made of the eight batches' stores, at an index, over whatever was stored before. -/
theorem rowPieces_apply (L : List (View.Piece (Elt Ideal) S8x128 .f32)) (b : Fin 8) (n : Fin 128) :
    View.canon (eight (rowPiece a bu h) ++ L) (ix2 b n) = stateAt (a (ix2 u0 n)) (h (ix2 b n)) (x b n) 256 := by
  refine View.canon_append_of_pieces (rowFn a bu h) L _
    (fun p hp => ?_) (ix2 b n) ⟨_, eight_mem _ b, ?_⟩ |>.trans ?_
  · obtain ⟨b', rfl⟩ := mem_eight hp
    intro j
    obtain ⟨j0, j1, rfl⟩ : ∃ (j0 : Fin 1) (j1 : Fin 128), j = ix2 j0 j1 := ⟨j 0, j 1, eq_ix2 j⟩
    obtain rfl : j0 = u0 := Subsingleton.elim _ _
    exact (congrArg (rowFn a bu h) (emb_row b' j1)).symm
  · refine (Rect.mem_set_unit (inb := inb_row b)).mpr fun e => ?_
    match e with
    | ⟨0, _⟩ => exact ⟨le_refl b.val, Nat.lt_succ_self b.val⟩
    | ⟨1, _⟩ => exact ⟨Nat.zero_le _, (Nat.zero_add 128).symm ▸ n.isLt⟩
  · show lastRow (batchRows b a (rowOf h b) bu) (ix2 u0 n) = _
    rw [lastRow_apply, batchRows_state a bu h ha x hx]

end Reads

/-- The initial state as the first grid point takes it. -/
theorem pay4_apply (v : FVec Ideal S1x8x128 .f32) (b : Fin 8) (n : Fin 128) : k0_pay4 v (ix2 b n) = v (ix3 u0 b n) := by
  unfold k0_pay4
  refine (shapeCast_apply _ _ _ (ix2 b n) rfl).trans (shapeCast_apply _ _ _ (ix3 u0 b n) ?_)
  rw [Shape.rowMajor_val_two, Shape.rowMajor_val_three]
  show (0 * 8 + b.val) * 128 + n.val = b.val * 128 + n.val
  omega

end Cert.Ssm
-- ==== Proof.Ssm.Spec.lean ====
/- What the kernel and the reference both compute, as plain mathematics over the extended reals: a linear state space
   model run over 4096 times, for 8 batches, 128 states and 1024 features. -/
module

public import Idealize.ShloMosaic.Lib.ValueIdx
public import proofs.«01_k».proof.Proof.Ssm.Algebra

@[expose] public section

noncomputable section

namespace Cert.Ssm

open Idealize.ShloMosaic Idealize.ShloMosaic.ValueIdx

/-- The nine arguments. -/
structure Model where
  /-- The inputs: batch, time, feature. -/
  u : FVec Ideal ⟨3, ![8, 4096, 1024]⟩ .f32
  /-- The state before the first time: batch, state. -/
  h0 : FVec Ideal ⟨2, ![8, 128]⟩ .f32
  /-- The logarithms of the decay rates. -/
  logA : FVec Ideal ⟨1, ![128]⟩ .f32
  /-- The input weights: state, feature. -/
  Bw : FVec Ideal ⟨2, ![128, 1024]⟩ .f32
  /-- The input biases. -/
  Bb : FVec Ideal ⟨1, ![128]⟩ .f32
  /-- The output weights: feature, state. -/
  Cw : FVec Ideal ⟨2, ![1024, 128]⟩ .f32
  /-- The output biases. -/
  Cb : FVec Ideal ⟨1, ![1024]⟩ .f32
  /-- The direct terms. -/
  D : FVec Ideal ⟨1, ![1024]⟩ .f32
  /-- The logarithms of the step sizes. -/
  logDt : FVec Ideal ⟨1, ![128]⟩ .f32

namespace Model

variable (M : Model)

/-- The factor state `n` decays by at each time. -/
def factor (n : Fin 128) : EReal := decay (M.logA (ix1 n)) (M.logDt (ix1 n))

/-- What enters state `n` of batch `b` at time `t`. -/
def entering (b : Fin 8) (n : Fin 128) (t : Fin 4096) : EReal :=
  ((∑ k : Fin 1024, M.u (ix3 b t k) * M.Bw (ix2 n k)) + M.Bb (ix1 n)) * stepSize (M.logDt (ix1 n))

/-- The same at any number: zero past the last time. -/
def input (b : Fin 8) (n : Fin 128) (t : ℕ) : EReal := if h : t < 4096 then M.entering b n ⟨t, h⟩ else 0

/-- At a time, that is what enters then. -/
theorem input_of_lt (b : Fin 8) (n : Fin 128) {t : ℕ} (h : t < 4096) : M.input b n t = M.entering b n ⟨t, h⟩ := dif_pos h

/-- State `n` of batch `b` after `t` times. -/
def state (b : Fin 8) (n : Fin 128) (t : ℕ) : EReal := stateAt (M.factor n) (M.h0 (ix2 b n)) (M.input b n) t

/-- The result: batch `b`, time `t`, feature `k`. -/
def result (b : Fin 8) (t : Fin 4096) (k : Fin 1024) : EReal :=
  (∑ n : Fin 128, M.state b n (t.val + 1) * M.Cw (ix2 k n)) + M.Cb (ix1 k) + M.D (ix1 k) * M.u (ix3 b t k)

end Model

end Cert.Ssm
-- ==== Proof.Ssm.Kernel.lean ====
/- The kernel's result, read entry by entry: point `t` of its grid takes the 256 times from `256 t`, starts from the states
   the point before left (the first from the initial states), writes their part of the result, and leaves the states 256
   times on; so the result array is the model's. -/
module

public import proofs.«01_k».proof.Proof.Gen.KernelIdeal.Value
public import Idealize.ShloMosaic.Lib.StableHlo.RunRead
public import proofs.«01_k».proof.Proof.Ssm.Point
public import proofs.«01_k».proof.Proof.Ssm.Spec

@[expose] public section

noncomputable section

namespace Cert.Ssm.Ker

open Idealize.ShloMosaic Idealize.ShloMosaic.ValueIdx Idealize.ShloMosaic.TcCoe
open Cert.KernelIdeal Cert.KernelIdeal.Gen Cert.KernelIdeal.Value

variable (m : (ℓ : Loc nD τ sig) → Buf (Elt Ideal) ℓ) (c : Dev nD)

/-- The model of the kernel's arguments. -/
abbrev model : Model :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩

/-! ### The arrays the grid reads -/

/-- The initial states, with a leading axis of one. -/
theorem V_h0 : V m c main_v0 = shapeCast S1x8x128 (model m c).h0 shapeCasts_S8x128_S1x8x128 := by
  unfold V; after_reads_simp; rfl

/-- The logarithms of the decay rates, as a row. -/
theorem V_logA : V m c main_v1 = shapeCast S1x128 (model m c).logA shapeCasts_S128_S1x128 := by
  unfold V; after_reads_simp; rfl

/-- The logarithms of the step sizes, as a row. -/
theorem V_logDt : V m c main_v2 = shapeCast S1x128 (model m c).logDt shapeCasts_S128_S1x128 := by
  unfold V; after_reads_simp; rfl

/-- The input biases, as a row. -/
theorem V_Bb : V m c main_v3 = shapeCast S1x128 (model m c).Bb shapeCasts_S128_S1x128 := by
  unfold V; after_reads_simp; rfl

/-- The input weights, features first. -/
theorem V_Bw : V m c main_v4 = transpose S1024x128 [1, 0] (model m c).Bw transposes_S128x1024_S1024x128_1_0 := by
  unfold V; after_reads_simp

/-- The output weights, states first. -/
theorem V_Cw : V m c main_v5 = transpose S128x1024 [1, 0] (model m c).Cw transposes_S1024x128_S128x1024_1_0 := by
  unfold V; after_reads_simp

/-- The output biases, as a row. -/
theorem V_Cb : V m c main_v6 = shapeCast S1x1024 (model m c).Cb shapeCasts_S1024_S1x1024 := by
  unfold V; after_reads_simp; rfl

/-- The direct terms, as a row. -/
theorem V_D : V m c main_v7 = shapeCast S1x1024 (model m c).D shapeCasts_S1024_S1x1024 := by
  unfold V; after_reads_simp; rfl

/-- A vector as a row reads the vector. -/
theorem asRow_apply {n : ℕ} (v : FVec Ideal ⟨1, ![n]⟩ .f32) (h : (⟨1, ![n]⟩ : Shape).ShapeCasts ⟨2, ![1, n]⟩) (i : Fin n) :
    shapeCast ⟨2, ![1, n]⟩ v h (ix2 u0 i) = v (ix1 i) :=
  shapeCast_apply _ _ _ (ix1 i) (by
    rw [Shape.rowMajor_val_two, Shape.rowMajor_val_one]
    show i.val = 0 * n + i.val
    omega)

/-- A matrix turned reads the matrix with its coordinates exchanged. -/
theorem turned_apply {p q : ℕ} (v : FVec Ideal ⟨2, ![p, q]⟩ .f32) (h : (⟨2, ![p, q]⟩ : Shape).Transposes [1, 0] ⟨2, ![q, p]⟩)
    (i : Fin q) (j : Fin p) : transpose ⟨2, ![q, p]⟩ [1, 0] v h (ix2 i j) = v (ix2 j i) :=
  transpose_apply _ _ _ _ (ix2 j i) fun e => by
    match e with
    | ⟨0, _⟩ => rfl
    | ⟨1, _⟩ => rfl

/-! ### The blocks a point reads -/

/-- Row `r` of point `t`'s block of the inputs is time `256 t + r`. -/
def timeOf (t : Fin cfg0.N) (r : Fin 256) : Fin 4096 :=
  ⟨256 * t.val + r.val, by have h := lt_of_lt_of_eq t.isLt (show cfg0.N = 16 from N_0); have := r.isLt; omega⟩

/-- Where the inputs' block lies. -/
theorem at0 : ∀ t : Fin cfg0.N, win0_0.index t (0 : Fin 3) = 0 ∧ win0_0.index t (1 : Fin 3) = t.val ∧ win0_0.index t (2 : Fin 3) = 0 :=
  (by decide +kernel : ∀ t : Fin grid0.N, _)
/-- The initial states' block is the whole array. -/
theorem at1 : ∀ t : Fin cfg0.N, win0_1.index t (0 : Fin 3) = 0 ∧ win0_1.index t (1 : Fin 3) = 0 ∧ win0_1.index t (2 : Fin 3) = 0 :=
  (by decide +kernel : ∀ t : Fin grid0.N, _)
/-- So are the other blocks. -/
theorem at_rest : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

variable (t : Fin cfg0.N)

/-- The inputs' block. -/
theorem blk_u (b : Fin 8) (r : Fin 256) (k : Fin 1024) :
    (iblk m c 0 t : FVec Ideal S8x256x1024 .f32) (ix3 b r k) = (model m c).u (ix3 b (timeOf t r) k) := by
  show V m c main_arg0 (((cfg0.win 0).blk t).view.emb (ix3 b r k)) = _
  rw [V_main_arg0]
  refine congrArg (model m c).u (funext fun a => Fin.ext ?_)
  obtain ⟨e0, e1, e2⟩ := at0 t
  match a with
  | ⟨0, _⟩ => show win0_0.index t (0 : Fin 3) * 8 + 1 * b.val = b.val; omega
  | ⟨1, _⟩ => show win0_0.index t (1 : Fin 3) * 256 + 1 * r.val = 256 * t.val + r.val; omega
  | ⟨2, _⟩ => show win0_0.index t (2 : Fin 3) * 1024 + 1 * k.val = k.val; omega

/-- The initial states' block. -/
theorem blk_h0 (b : Fin 8) (n : Fin 128) :
    (iblk m c 1 t : FVec Ideal S1x8x128 .f32) (ix3 u0 b n) = (model m c).h0 (ix2 b n) := by
  have e : ((cfg0.win 1).blk t).view.emb (ix3 u0 b n) = ix3 u0 b n := by
    obtain ⟨e0, e1, e2⟩ := at1 t
    funext a; apply Fin.ext
    match a with
    | ⟨0, _⟩ => show win0_1.index t (0 : Fin 3) * 1 + 1 * 0 = 0; omega
    | ⟨1, _⟩ => show win0_1.index t (1 : Fin 3) * 8 + 1 * b.val = b.val; omega
    | ⟨2, _⟩ => show win0_1.index t (2 : Fin 3) * 128 + 1 * n.val = n.val; omega
  show V m c main_v0 (((cfg0.win 1).blk t).view.emb (ix3 u0 b n)) = _
  rw [e, V_h0]
  refine shapeCast_apply _ _ _ (ix2 b n) ?_
  rw [Shape.rowMajor_val_two, Shape.rowMajor_val_three]
  show b.val * 128 + n.val = (0 * 8 + b.val) * 128 + n.val
  omega

/-- An index at which a block's index is zero on both axes is its own place in the array. -/
theorem place_whole {p q : ℕ} {i0 i1 : ℕ} (h : i0 = 0 ∧ i1 = 0) (f : (⟨2, ![p, q]⟩ : Shape).Idx → (⟨2, ![p, q]⟩ : Shape).Idx)
    (hf : ∀ j, (f j 0).val = i0 * p + 1 * (j 0).val ∧ (f j 1).val = i1 * q + 1 * (j 1).val) (j : (⟨2, ![p, q]⟩ : Shape).Idx) :
    f j = j := by
  obtain ⟨rfl, rfl⟩ := h
  funext a; apply Fin.ext
  match a with
  | ⟨0, _⟩ => have := (hf j).1; show (f j 0).val = (j 0).val; omega
  | ⟨1, _⟩ => have := (hf j).2; show (f j 1).val = (j 1).val; omega

/-- The block of decay rates. -/
theorem blk_logA (n : Fin 128) : (iblk m c 2 t : FVec Ideal S1x128 .f32) (ix2 u0 n) = (model m c).logA (ix1 n) := by
  show V m c main_v1 (((cfg0.win 2).blk t).view.emb (ix2 u0 n)) = _
  rw [place_whole (at_rest t).1 ((cfg0.win 2).blk t).view.emb (fun j => ⟨rfl, rfl⟩), V_logA]
  exact asRow_apply _ _ n

/-- The block of step sizes. -/
theorem blk_logDt (n : Fin 128) : (iblk m c 3 t : FVec Ideal S1x128 .f32) (ix2 u0 n) = (model m c).logDt (ix1 n) := by
  show V m c main_v2 (((cfg0.win 3).blk t).view.emb (ix2 u0 n)) = _
  rw [place_whole (at_rest t).2.1 ((cfg0.win 3).blk t).view.emb (fun j => ⟨rfl, rfl⟩), V_logDt]
  exact asRow_apply _ _ n

/-- The block of input biases. -/
theorem blk_Bb (n : Fin 128) : (iblk m c 4 t : FVec Ideal S1x128 .f32) (ix2 u0 n) = (model m c).Bb (ix1 n) := by
  show V m c main_v3 (((cfg0.win 4).blk t).view.emb (ix2 u0 n)) = _
  rw [place_whole (at_rest t).2.2.1 ((cfg0.win 4).blk t).view.emb (fun j => ⟨rfl, rfl⟩), V_Bb]
  exact asRow_apply _ _ n

/-- The block of input weights. -/
theorem blk_Bw (k : Fin 1024) (n : Fin 128) : (iblk m c 5 t : FVec Ideal S1024x128 .f32) (ix2 k n) = (model m c).Bw (ix2 n k) := by
  show V m c main_v4 (((cfg0.win 5).blk t).view.emb (ix2 k n)) = _
  rw [place_whole (at_rest t).2.2.2.1 ((cfg0.win 5).blk t).view.emb (fun j => ⟨rfl, rfl⟩), V_Bw]
  exact turned_apply _ _ k n

/-- The block of output weights. -/
theorem blk_Cw (n : Fin 128) (k : Fin 1024) : (iblk m c 6 t : FVec Ideal S128x1024 .f32) (ix2 n k) = (model m c).Cw (ix2 k n) := by
  show V m c main_v5 (((cfg0.win 6).blk t).view.emb (ix2 n k)) = _
  rw [place_whole (at_rest t).2.2.2.2.1 ((cfg0.win 6).blk t).view.emb (fun j => ⟨rfl, rfl⟩), V_Cw]
  exact turned_apply _ _ n k

/-- The block of output biases. -/
theorem blk_Cb (k : Fin 1024) : (iblk m c 7 t : FVec Ideal S1x1024 .f32) (ix2 u0 k) = (model m c).Cb (ix1 k) := by
  show V m c main_v6 (((cfg0.win 7).blk t).view.emb (ix2 u0 k)) = _
  rw [place_whole (at_rest t).2.2.2.2.2.1 ((cfg0.win 7).blk t).view.emb (fun j => ⟨rfl, rfl⟩), V_Cb]
  exact asRow_apply _ _ k

/-- The block of direct terms. -/
theorem blk_D (k : Fin 1024) : (iblk m c 8 t : FVec Ideal S1x1024 .f32) (ix2 u0 k) = (model m c).D (ix1 k) := by
  show V m c main_v7 (((cfg0.win 8).blk t).view.emb (ix2 u0 k)) = _
  rw [place_whole (at_rest t).2.2.2.2.2.2 ((cfg0.win 8).blk t).view.emb (fun j => ⟨rfl, rfl⟩), V_D]
  exact asRow_apply _ _ k

/-! ### One point -/

/-- Point `t`'s factors. -/
abbrev factors : FVec Ideal S1x128 .f32 := k0_pay3 (iblk m c 3 t) (iblk m c 2 t)
/-- What enters the states at point `t`'s times. -/
abbrev enterings : FVec Ideal S2048x128 .f32 := k0_pay5 (iblk m c 3 t) (iblk m c 4 t) (iblk m c 0 t) (iblk m c 5 t)

/-- Point `t`'s factors are the model's. -/
theorem factors_apply (n : Fin 128) : factors m c t (ix2 u0 n) = (model m c).factor n := by
  rw [factors, pay3_apply]
  exact congrArg₂ decay (blk_logA m c t n) (blk_logDt m c t n)

/-- The factors are factors. -/
theorem factors_factor (n : Fin 128) : Factor (factors m c t (ix2 u0 n)) := by
  rw [factors_apply]
  exact decay_factor _ _

/-- What enters is the model's, from time `256 t` on. -/
theorem enterings_apply (b : Fin 8) (n : Fin 128) (r : Fin 256) :
    enterings m c t (ix2 (rowAt b r) n)
      = (model m c).input b n (256 * t.val + r.val) := by
  refine (pay5_apply _ _ _ _ b r n).trans (Eq.trans ?_ ((model m c).input_of_lt b n (timeOf t r).isLt).symm)
  refine congrArg₂ (· * ·) (congrArg₂ (· + ·) (Finset.sum_congr rfl fun k _ => ?_) (blk_Bb m c t n))
    (congrArg stepSize (blk_logDt m c t n))
  exact congrArg₂ (· * ·) (blk_u m c t b r k) (blk_Bw m c t k n)

variable (h : FVec Ideal S8x128 .f32) (hh : ∀ b n, h (ix2 b n) = (model m c).state b n (256 * t.val))

include hh

/-- A scan from the states at time `256 t` goes through the model's states. -/
theorem scan_apply (b : Fin 8) (n : Fin 128) (r : ℕ) :
    stateAt (factors m c t (ix2 u0 n)) (h (ix2 b n)) (fun r => (model m c).input b n (256 * t.val + r)) r
      = (model m c).state b n (256 * t.val + r) := by
  rw [hh, factors_apply]
  exact stateAt_add _ _ _ _ _

/-- From the states at time `256 t`, the point's output blocks are the model's results at its times. -/
theorem out_apply (b : Fin 8) (r : Fin 256) (k : Fin 1024) :
    View.canon (eight (outPiece (iblk m c 0 t) (factors m c t) (enterings m c t) (iblk m c 6 t) (iblk m c 7 t) (iblk m c 8 t) h))
      (ix3 b r k) = (model m c).result b (timeOf t r) k := by
  refine (outPieces_apply _ _ h (factors_factor m c t) (fun b n r => (model m c).input b n (256 * t.val + r))
    (enterings_apply m c t) _ _ _ _ b r k).trans ?_
  refine congrArg₂ (· + ·) (congrArg₂ (· + ·) (Finset.sum_congr rfl fun n _ => ?_) (blk_Cb m c t k))
    (congrArg₂ (· * ·) (blk_D m c t k) (blk_u m c t b r k))
  exact congrArg₂ (· * ·) (scan_apply m c t h hh b n (r.val + 1)) (blk_Cw m c t n k)

/-- And the rows it carries on are the model's states 256 times on. -/
theorem row_apply (L : List (View.Piece (Elt Ideal) S8x128 .f32)) (b : Fin 8) (n : Fin 128) :
    View.canon (eight (rowPiece (factors m c t) (enterings m c t) h) ++ L) (ix2 b n) = (model m c).state b n (256 * (t.val + 1)) := by
  refine (rowPieces_apply _ _ h (factors_factor m c t) (fun b n r => (model m c).input b n (256 * t.val + r))
    (enterings_apply m c t) L b n).trans ?_
  exact scan_apply m c t h hh b n 256

omit hh

/-! ### The grid -/

/-- What a point leaves: its part of the result, and the states after its times. -/
def Leaves (X : FVec Ideal S8x256x1024 .f32 × FVec Ideal S8x128 .f32) : Prop :=
  (∀ b r k, X.1 (ix3 b r k) = (model m c).result b (timeOf t r) k) ∧ ∀ b n, X.2 (ix2 b n) = (model m c).state b n (256 * (t.val + 1))

/-- The first point does so. -/
theorem leaves_first (h0 : t.val % 16 = 0) : Leaves m c t (outsAt0 m c t.val t.isLt) := by
  have ht : t.val = 0 := by have := lt_of_lt_of_eq t.isLt (show cfg0.N = 16 from N_0); omega
  have hh : ∀ b n, k0_pay4 (F := Ideal) (iblk m c 1 t) (ix2 b n) = (model m c).state b n (256 * t.val) := fun b n => by
    rw [pay4_apply, ht]
    exact blk_h0 m c t b n
  rw [outsAt0_A m c t h0]
  constructor
  · intro b r k
    dsimp only
    rw [out0_A_9, View.read_writes_junk_eq_canon, outPieces_A]
    exact out_apply m c t _ hh b r k
  · intro b n
    dsimp only
    rw [sout0_A_0, View.read_writes_junk_eq_canon, rowPieces_A]
    exact row_apply m c t _ hh _ b n

/-- A later point does so after a point that did. -/
theorem leaves_later (h0 : ¬t.val % 16 = 0)
    (hp : ∀ b n, (outsAt0 m c (t.val - 1) (Nat.lt_of_le_of_lt (Nat.sub_le _ _) t.isLt)).2 (ix2 b n) = (model m c).state b n (256 * t.val)) :
    Leaves m c t (outsAt0 m c t.val t.isLt) := by
  rw [outsAt0_B m c t h0]
  constructor
  · intro b r k
    dsimp only
    rw [out0_B_9, View.read_writes_junk_eq_canon, outPieces_B]
    exact out_apply m c t _ hp b r k
  · intro b n
    dsimp only
    rw [sout0_B_0, View.read_writes_junk_eq_canon, rowPieces_B, ← List.append_nil (eight _)]
    exact row_apply m c t _ hp _ b n

/-- Every point does so. -/
theorem leaves : ∀ (n : ℕ) (hn : n < cfg0.N), Leaves m c ⟨n, hn⟩ (outsAt0 m c n hn)
  | 0, hn => leaves_first m c ⟨0, hn⟩ rfl
  | n + 1, hn => leaves_later m c ⟨n + 1, hn⟩
      (by have := lt_of_lt_of_eq hn (show cfg0.N = 16 from N_0); show ¬(n + 1) % 16 = 0; omega)
      (leaves n (Nat.lt_of_succ_lt hn)).2

/-- The result array at an entry is the model's. -/
theorem result_apply (b : Fin 8) (s : Fin 4096) (k : Fin 1024) :
    (G9 m c : FVec Ideal S8x4096x1024 .f32) (ix3 b s k) = (model m c).result b s k := by
  have hb := b.isLt
  have hs := s.isLt
  have hk := k.isLt
  have hp : pt9Of (ix3 b s k) = s.val / 256 := by
    show 16 * (b.val / 8 - 0) + 1 * (s.val / 256 - 0) + 1 * (k.val / 1024 - 0) = _
    omega
  have hlt : s.val / 256 < cfg0.N := by rw [show cfg0.N = 16 from N_0]; omega
  have hlt' : pt9Of (ix3 b s k) < cfg0.N := hp ▸ hlt
  unfold G9
  rw [dif_pos hlt', fold0_congr m c _ _ _ (by omega) hp, ← outsAt0_sweep m c _ hlt]
  have hloc : loc9Of (ix3 b s k) = ix3 b (⟨s.val % 256, by omega⟩ : Fin 256) k := by
    funext a; apply Fin.ext
    match a with
    | ⟨0, _⟩ => show b.val % 8 = b.val; omega
    | ⟨1, _⟩ => rfl
    | ⟨2, _⟩ => show k.val % 1024 = k.val; omega
  rw [hloc]
  refine ((leaves m c _ hlt).1 b _ k).trans ?_
  rw [show timeOf ⟨s.val / 256, hlt⟩ ⟨s.val % 256, by omega⟩ = s from Fin.ext (Nat.div_add_mod s.val 256)]

end Cert.Ssm.Ker
-- ==== Proof.Ssm.Reference.lean ====
/- The reference's loop, read entry by entry: after `k` trips it carries the states the recurrence reaches after `k`
   times, and the stack of states of the times passed; its result is the model's. -/
module

public import proofs.«01_k».proof.Proof.Gen.ReferenceIdeal.Run
public import Idealize.ShloMosaic.Lib.Pipeline.Value
public import Idealize.ShloMosaic.Lib.DynamicIndex
public import Idealize.ShloMosaic.Lib.ValueIdx
public import Idealize.ShloMosaic.Lib.ValueIdxCoords
public import Idealize.ShloMosaic.PureOps.Ideal.Laws
public import proofs.«01_k».proof.Proof.Ssm.Spec

@[expose] public section

noncomputable section

namespace Cert.Ssm.Ref

open Idealize.ShloMosaic Idealize.ShloMosaic.ValueIdx
open Idealize.ShloMosaic.StableHlo (entryContents afterL_cons afterL_nil)
open Idealize.ShloMosaic.TcCoe
open Cert.ReferenceIdeal Cert.ReferenceIdeal.Gen Cert.ReferenceIdeal.Value

/-! ### The operations outside the loop -/

/-- The reference's input product, with its long name shortened. -/
abbrev Din := dot_S8x4096x1024_S128x1024_S8x4096x128_2_1_01_0_n_n
/-- The reference's output product, with its long name shortened. -/
abbrev Dout := dot_S8x4096x128_S1024x128_S8x4096x1024_2_1_01_0_n_n

/-- The input product at an index: the sum over the features. -/
theorem dot_in_apply (x : FVec Ideal S8x4096x1024 .f32) (w : FVec Ideal S128x1024 .f32) (b : Fin 8) (t : Fin 4096) (n : Fin 128) :
    Host.dotGeneral (F := Ideal) Din none x w (ix3 b t n) = ∑ k : Fin 1024, x (ix3 b t k) * w (ix2 n k) := by
  show FloatOps.dotGeneral Din none _ x w (ix3 b t n) = _
  rw [Ideal.dotGeneral_apply, ← (contrEquiv1 Din 1024 rfl rfl).symm.sum_comp]
  refine Finset.sum_congr rfl fun k _ => ?_
  congr 2
  · funext e; apply Fin.ext
    match e with
    | ⟨0, _⟩ => simp [DotDims.lhsIdx, Din, dot_S8x4096x1024_S128x1024_S8x4096x128_2_1_01_0_n_n]; rfl
    | ⟨1, _⟩ => simp [DotDims.lhsIdx, Din, dot_S8x4096x1024_S128x1024_S8x4096x128_2_1_01_0_n_n]; rfl
    | ⟨2, _⟩ => simp [DotDims.lhsIdx, Din, dot_S8x4096x1024_S128x1024_S8x4096x128_2_1_01_0_n_n]; rfl
  · refine Shape.idx_ext₂ ?_ ?_
    · simp [DotDims.rhsIdx, Din, dot_S8x4096x1024_S128x1024_S8x4096x128_2_1_01_0_n_n]; rfl
    · simp [DotDims.rhsIdx, Din, dot_S8x4096x1024_S128x1024_S8x4096x128_2_1_01_0_n_n]; rfl

/-- The output product at an index: the sum over the states. -/
theorem dot_out_apply (x : FVec Ideal S8x4096x128 .f32) (w : FVec Ideal S1024x128 .f32) (b : Fin 8) (t : Fin 4096) (k : Fin 1024) :
    Host.dotGeneral (F := Ideal) Dout none x w (ix3 b t k) = ∑ n : Fin 128, x (ix3 b t n) * w (ix2 k n) := by
  show FloatOps.dotGeneral Dout none _ x w (ix3 b t k) = _
  rw [Ideal.dotGeneral_apply, ← (contrEquiv1 Dout 128 rfl rfl).symm.sum_comp]
  refine Finset.sum_congr rfl fun n _ => ?_
  congr 2
  · funext e; apply Fin.ext
    match e with
    | ⟨0, _⟩ => simp [DotDims.lhsIdx, Dout, dot_S8x4096x128_S1024x128_S8x4096x1024_2_1_01_0_n_n]; rfl
    | ⟨1, _⟩ => simp [DotDims.lhsIdx, Dout, dot_S8x4096x128_S1024x128_S8x4096x1024_2_1_01_0_n_n]; rfl
    | ⟨2, _⟩ => simp [DotDims.lhsIdx, Dout, dot_S8x4096x128_S1024x128_S8x4096x1024_2_1_01_0_n_n]; rfl
  · refine Shape.idx_ext₂ ?_ ?_
    · simp [DotDims.rhsIdx, Dout, dot_S8x4096x128_S1024x128_S8x4096x1024_2_1_01_0_n_n]; rfl
    · simp [DotDims.rhsIdx, Dout, dot_S8x4096x128_S1024x128_S8x4096x1024_2_1_01_0_n_n]; rfl

/-- A vector copied along every batch and time reads the vector at the last coordinate. -/
theorem spread_apply {n : ℕ} (h1 : (⟨1, ![n]⟩ : Shape).BroadcastsInDim ⟨3, ![1, 1, n]⟩ ![2])
    (h2 : (⟨3, ![1, 1, n]⟩ : Shape).BroadcastsInDim ⟨3, ![8, 4096, n]⟩ ![0, 1, 2]) (v : FVec Ideal ⟨1, ![n]⟩ .f32)
    (b : Fin 8) (t : Fin 4096) (k : Fin n) :
    broadcastInDim ⟨3, ![8, 4096, n]⟩ ![0, 1, 2] h2 (broadcastInDim ⟨3, ![1, 1, n]⟩ ![2] h1 v) (ix3 b t k) = v (ix1 k) := by
  have e : ∀ i : Fin n, i.val = if n = 1 then 0 else i.val := fun i => by
    split
    · have := i.isLt; omega
    · rfl
  refine (broadcastInDim_apply _ h2 _ _ (ix3 u0 u0 k) fun a => ?_).trans (broadcastInDim_apply _ h1 _ _ (ix1 k) fun a => ?_)
  · match a with
    | ⟨0, _⟩ => rfl
    | ⟨1, _⟩ => rfl
    | ⟨2, _⟩ => exact e k
  · match a with
    | ⟨0, _⟩ => exact e k

/-- Batch and time exchanged, from batches first. -/
theorem timesFirst_apply (x : FVec Ideal S8x4096x128 .f32) (t : Fin 4096) (b : Fin 8) (n : Fin 128) :
    transpose S4096x8x128 [1, 0, 2] x transposes_S8x4096x128_S4096x8x128_1_0_2 (ix3 t b n) = x (ix3 b t n) :=
  transpose_apply _ _ _ _ (ix3 b t n) fun e => by
    match e with
    | ⟨0, _⟩ => rfl
    | ⟨1, _⟩ => rfl
    | ⟨2, _⟩ => rfl

/-- Batch and time exchanged, from times first. -/
theorem batchesFirst_apply (x : FVec Ideal S4096x8x128 .f32) (b : Fin 8) (t : Fin 4096) (n : Fin 128) :
    transpose S8x4096x128 [1, 0, 2] x transposes_S4096x8x128_S8x4096x128_1_0_2 (ix3 b t n) = x (ix3 t b n) :=
  transpose_apply _ _ _ _ (ix3 t b n) fun e => by
    match e with
    | ⟨0, _⟩ => rfl
    | ⟨1, _⟩ => rfl
    | ⟨2, _⟩ => rfl

/-- The step sizes as the reference computes them. -/
def stepSizes (logDt : FVec Ideal S128 .f32) : FVec Ideal S128 .f32 :=
  minimumf (Host.exp logDt) (broadcastInDim S128 ![] bcast_S_S128 (constant (F := Ideal) S_ .f32 0x3F800000#32))

/-- The decay factors as the reference computes them. -/
def factors (logA logDt : FVec Ideal S128 .f32) : FVec Ideal S128 .f32 :=
  Host.exp (mulf (Host.negf (Host.exp logA)) (stepSizes logDt))

/-- What enters the states, as the reference computes it. -/
def enterings (u : FVec Ideal S8x4096x1024 .f32) (Bw : FVec Ideal S128x1024 .f32) (Bb logDt : FVec Ideal S128 .f32) :
    FVec Ideal S4096x8x128 .f32 :=
  transpose S4096x8x128 [1, 0, 2]
    (mulf (addf (Host.dotGeneral (F := Ideal) Din none u Bw)
        (broadcastInDim S8x4096x128 ![0, 1, 2] bcast_S1x1x128_S8x4096x128_0_1_2 (broadcastInDim S1x1x128 ![2] bcast_S128_S1x1x128_2 Bb)))
      (broadcastInDim S8x4096x128 ![0, 1, 2] bcast_S1x1x128_S8x4096x128_0_1_2
        (broadcastInDim S1x1x128 ![2] bcast_S128_S1x1x128_2 (stepSizes logDt))))
    transposes_S8x4096x128_S4096x8x128_1_0_2

/-- The step sizes at an entry. -/
theorem stepSizes_apply (logDt : FVec Ideal S128 .f32) (n : Fin 128) : stepSizes logDt (ix1 n) = stepSize (logDt (ix1 n)) := by
  show min (Ideal.exp (logDt (ix1 n))) (Ideal.ofBits .f32 0x3F800000#32) = _
  rw [show Ideal.ofBits .f32 0x3F800000#32 = 1 by simp [Ideal.ofBits, Ideal.ieee, -EReal.coe_mul]; norm_num]
  rfl

/-- The decay factors at an entry. -/
theorem factors_apply (M : Model) (n : Fin 128) : factors M.logA M.logDt (ix1 n) = M.factor n := by
  show Ideal.exp (-Ideal.exp (M.logA (ix1 n)) * stepSizes M.logDt (ix1 n)) = _
  rw [stepSizes_apply]
  rfl

/-- What enters the states at an entry. -/
theorem enterings_apply (M : Model) (t : Fin 4096) (b : Fin 8) (n : Fin 128) :
    enterings M.u M.Bw M.Bb M.logDt (ix3 t b n) = M.entering b n t := by
  unfold enterings
  rw [timesFirst_apply, mulf_apply, addf_apply, dot_in_apply]
  refine congrArg₂ (· * ·) (congrArg₂ (· + ·) rfl ?_) ?_
  · exact spread_apply _ _ M.Bb b t n
  · exact (spread_apply _ _ _ b t n).trans (stepSizes_apply M.logDt n)

/-! ### One trip -/

/-- Trip `k`'s place in the stacks: the number of the trip, then the origin. -/
def place (k : ℕ) (e : Fin 3) : ℤ :=
  ((![constantI S_ 32 (BitVec.ofNat 32 k), constantI S_ 32 0#32, constantI S_ 32 0#32]
    : Fin 3 → (⟨S_, .i32⟩ : BufTy).Contents (Elt Ideal)) e (Shape.Idx.first h_S_)).toInt

/-- It is `k, 0, 0`. -/
theorem place_eq {k : ℕ} (hk : k < 4096) (e : Fin 3) : place k e = ((![k, 0, 0] : Fin 3 → ℕ) e : ℤ) := by
  match e with
  | ⟨0, _⟩ => exact toInt_ofNat_of_lt (by omega)
  | ⟨1, _⟩ => rfl
  | ⟨2, _⟩ => rfl

/-- One time's slab lies in the stack. -/
theorem slab_slices {k : ℕ} (hk : k < 4096) : S4096x8x128.Slices ![k, 0, 0] S1x8x128 :=
  ⟨rfl, fun e => by
    match e with
    | ⟨0, _⟩ => show k + 1 ≤ 4096; omega
    | ⟨1, _⟩ => show 0 + 8 ≤ 8; omega
    | ⟨2, _⟩ => show 0 + 128 ≤ 128; omega⟩

/-- Trip `k` reads time `k` of the stack `E`. -/
theorem read_apply {k : ℕ} (hk : k < 4096) (E : FVec Ideal S4096x8x128 .f32) (b : Fin 8) (n : Fin 128) :
    shapeCast S8x128 (Host.dynamicSlice S1x8x128 E (place k) sliceFits_S4096x8x128_S1x8x128) shapeCasts_S1x8x128_S8x128 (ix2 b n)
      = E (ix3 ⟨k, hk⟩ b n) := by
  refine (shapeCast_apply _ _ _ (ix3 u0 b n) ?_).trans ?_
  · rw [Shape.rowMajor_val_two, Shape.rowMajor_val_three]
    show (0 * 8 + b.val) * 128 + n.val = b.val * 128 + n.val
    omega
  · rw [Host.dynamicSlice_eq_extractStridedSlice _ _ _ ![k, 0, 0] _ (slab_slices hk) (place_eq hk)]
    refine extractStridedSlice_apply _ _ _ _ (ix3 ⟨k, hk⟩ b n) fun e => ?_
    match e with
    | ⟨0, _⟩ => rfl
    | ⟨1, _⟩ => exact (Nat.zero_add b.val).symm
    | ⟨2, _⟩ => exact (Nat.zero_add n.val).symm

/-- A vector copied into every batch reads the vector at the state. -/
theorem everyBatch_apply (v : FVec Ideal S128 .f32) (b : Fin 8) (n : Fin 128) :
    broadcastInDim S8x128 ![0, 1] bcast_S1x128_S8x128_0_1 (broadcastInDim S1x128 ![1] bcast_S128_S1x128_1 v) (ix2 b n) = v (ix1 n) := by
  refine (broadcastInDim_apply _ _ _ _ (ix2 u0 n) fun a => ?_).trans (broadcastInDim_apply _ _ _ _ (ix1 n) fun a => ?_)
  · match a with
    | ⟨0, _⟩ => rfl
    | ⟨1, _⟩ => rfl
  · match a with
    | ⟨0, _⟩ => rfl

/-- Trip `k` writes the states `h` at time `k` of the stack `H` and leaves the other times. -/
theorem write_apply {k : ℕ} (hk : k < 4096) (H : FVec Ideal S4096x8x128 .f32) (h : FVec Ideal S8x128 .f32)
    (t : Fin 4096) (b : Fin 8) (n : Fin 128) :
    Host.dynamicUpdateSlice H (broadcastInDim S1x8x128 ![1, 2] bcast_S8x128_S1x8x128_1_2 h) (place k) updateFits_S4096x8x128_S1x8x128
      (ix3 t b n) = if t.val = k then h (ix2 b n) else H (ix3 t b n) := by
  rw [Host.dynamicUpdateSlice_eq_updateSlice _ _ _ _ ![k, 0, 0] (fun e => ?_) (slab_slices hk)]
  · unfold updateSlice
    by_cases ht : t.val = k
    · rw [if_pos ht, dif_pos fun e => by
        match e with
        | ⟨0, _⟩ => exact ⟨le_of_eq ht.symm, by show t.val < k + 1; omega⟩
        | ⟨1, _⟩ => exact ⟨Nat.zero_le _, (Nat.zero_add 8).symm ▸ b.isLt⟩
        | ⟨2, _⟩ => exact ⟨Nat.zero_le _, (Nat.zero_add 128).symm ▸ n.isLt⟩]
      refine broadcastInDim_apply _ _ _ _ (ix2 b n) fun a => ?_
      match a with
      | ⟨0, _⟩ => rfl
      | ⟨1, _⟩ => rfl
    · rw [if_neg ht, dif_neg fun hin => ?_]
      have h1 : k ≤ t.val := (hin (0 : Fin 3)).1
      have h2 : t.val < k + 1 := (hin (0 : Fin 3)).2
      omega
  · have hs := (slab_slices hk).2 e
    rw [place_eq hk e]
    omega

/-! ### The loop -/

/-- What the buffers hold before trip `k`: the trip's number, what enters, the factors, the model's states after `k`
    times, and the states of every time passed. -/
structure Before (M : Model) (V : Valuation τ sig (Elt Ideal)) (k : ℕ) : Prop where
  number : V (Proc.devRef .tc main_v16_2) = constantI S_ 32 (BitVec.ofNat 32 k)
  enters : ∀ t b n, (V (Proc.devRef .tc main_v16_0) : FVec Ideal S4096x8x128 .f32) (ix3 t b n) = M.entering b n t
  factor : ∀ n, (V (Proc.devRef .tc main_v16_1) : FVec Ideal S128 .f32) (ix1 n) = M.factor n
  now : ∀ b n, (V (Proc.devRef .tc main_v16_3) : FVec Ideal S8x128 .f32) (ix2 b n) = M.state b n k
  passed : ∀ (t : Fin 4096) b n, t.val < k →
    (V (Proc.devRef .tc main_v16_4) : FVec Ideal S4096x8x128 .f32) (ix3 t b n) = M.state b n (t.val + 1)

variable {M : Model} {V : Valuation τ sig (Elt Ideal)} {k : ℕ}

/-- The states a trip computes are the model's one time on. -/
theorem Before.next (h : Before M V k) (hk : k < 4096) (b : Fin 8) (n : Fin 128) :
    (res_main_while0b_v30 V : FVec Ideal S8x128 .f32) (ix2 b n) = M.state b n (k + 1) := by
  unfold res_main_while0b_v30
  rw [h.number]
  refine Eq.trans (b := M.factor n * M.state b n k + M.entering b n ⟨k, hk⟩) ?_ ?_
  · exact congrArg₂ (· + ·)
      (congrArg₂ (· * ·) ((everyBatch_apply (V (Proc.devRef .tc main_v16_1)) b n).trans (h.factor n)) (h.now b n))
      ((read_apply hk (V (Proc.devRef .tc main_v16_0)) b n).trans (h.enters _ b n))
  · rw [← M.input_of_lt b n hk]
    rfl

/-- A trip takes the buffers from what they hold before it to what they hold before the next. -/
theorem Before.trip (h : Before M V k) (hk : k < 4096) : Before M (STEP V) (k + 1) where
  number := by
    rw [STEP_main_v16_2]
    unfold step_main_v16_2
    rw [h.number]
    funext i
    show BitVec.ofNat 32 k + 1#32 = BitVec.ofNat 32 (k + 1)
    simp only [BitVec.ofNat_add]
  enters := by rw [STEP_main_v16_0]; exact h.enters
  factor := by rw [STEP_main_v16_1]; exact h.factor
  now b n := by rw [STEP_main_v16_3]; exact h.next hk b n
  passed t b n ht := by
    rw [STEP_main_v16_4]
    unfold step_main_v16_4
    rw [h.number]
    refine (write_apply hk (V (Proc.devRef .tc main_v16_4)) (res_main_while0b_v30 V) t b n).trans ?_
    by_cases e : t.val = k
    · rw [if_pos e, e]
      exact h.next hk b n
    · rw [if_neg e]
      exact h.passed t b n (by omega)

variable (m : (ℓ : Loc nD τ sig) → Buf (Elt Ideal) ℓ) (c : Dev nD)

/-- The model of the reference's arguments. -/
abbrev model : Model :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩

set_option maxRecDepth 65536 in
/-- The loop is entered with the trip number zero. -/
theorem entry_number : entryContents preI m c (Proc.devRef .tc main_v16_2) = constantI S_ 32 (BitVec.ofNat 32 0) := by
  simp only [entryContents, afterL_cons, afterL_nil]; after_reads_simp; rfl

set_option maxRecDepth 65536 in
/-- The loop is entered with what enters computed. -/
theorem entry_enters : entryContents preI m c (Proc.devRef .tc main_v16_0)
    = enterings (model m c).u (model m c).Bw (model m c).Bb (model m c).logDt := by
  simp only [entryContents, afterL_cons, afterL_nil]; after_reads_simp; rfl

set_option maxRecDepth 65536 in
/-- The loop is entered with the factors computed. -/
theorem entry_factor : entryContents preI m c (Proc.devRef .tc main_v16_1) = factors (model m c).logA (model m c).logDt := by
  simp only [entryContents, afterL_cons, afterL_nil]; after_reads_simp; rfl

set_option maxRecDepth 65536 in
/-- The loop is entered with the initial states. -/
theorem entry_now : entryContents preI m c (Proc.devRef .tc main_v16_3) = (model m c).h0 := by
  simp only [entryContents, afterL_cons, afterL_nil]; after_reads_simp; rfl

/-- Before trip `k` the buffers hold what they should. -/
theorem before : ∀ {k : ℕ}, k ≤ 4096 → Before (model m c) (STEP^[k] (entryContents preI m c)) k
  | 0, _ =>
    { number := entry_number m c
      enters := fun t b n => (congrFun (entry_enters m c) (ix3 t b n)).trans (enterings_apply (model m c) t b n)
      factor := fun n => (congrFun (entry_factor m c) (ix1 n)).trans (factors_apply (model m c) n)
      now := fun b n => congrFun (entry_now m c) (ix2 b n)
      passed := fun _ _ _ h => absurd h (Nat.not_lt_zero _) }
  | k + 1, h => by
    rw [Function.iterate_succ_apply']
    exact (before (by omega)).trip h

/-- The reference's result at an entry is the model's. -/
theorem result_apply (b : Fin 8) (t : Fin 4096) (k : Fin 1024) :
    (out_main_v25 (STEP^[4096] (entryContents preI m c)) : FVec Ideal S8x4096x1024 .f32) (ix3 b t k) = (model m c).result b t k := by
  unfold out_main_v25
  rw [iter_main_arg0, iter_main_arg5, iter_main_arg6, iter_main_arg7]
  refine congrArg₂ (· + ·) (congrArg₂ (· + ·) ((dot_out_apply _ _ b t k).trans (Finset.sum_congr rfl fun n _ => ?_)) ?_)
    (congrArg₂ (· * ·) ?_ rfl)
  · rw [batchesFirst_apply, (before m c (le_refl 4096)).passed t b n t.isLt]
  · exact spread_apply _ _ (model m c).Cb b t k
  · exact spread_apply _ _ (model m c).D b t k

end Cert.Ssm.Ref
-- ==== Proof.lean ====
/- The certificate: the two programs run as stated, and the kernel's result array and the reference's are the same
   function of the arguments, each being the model of `Proof/Ssm/Spec.lean` entry by entry. -/
module

public import proofs.«01_k».proof.Proof.Ssm.Kernel
public import proofs.«01_k».proof.Proof.Ssm.Reference
public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its arguments unchanged and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An array with three coordinates is what it reads at each of its indices. -/
theorem ext3 {p q r : ℕ} {X Y : FVec Ideal ⟨3, ![p, q, r]⟩ .f32}
    (h : ∀ b t k, X (ValueIdx.ix3 b t k) = Y (ValueIdx.ix3 b t k)) : X = Y :=
  funext fun i => by
    rw [ValueIdx.eq_ix3 i]
    exact h _ _ _

/-- Kernel and reference compute the same function over the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hmodel : Cert.Ssm.Ref.model m' c = Cert.Ssm.Ker.model m c := by
    simp only [Cert.Ssm.Ref.model, Cert.Ssm.Ker.model, hagree c]
  refine ext3 fun b t k => ?_
  exact (Cert.Ssm.Ref.result_apply m' c b t k).trans
    ((congrArg (fun M : Cert.Ssm.Model => M.result b t k) hmodel).trans (Cert.Ssm.Ker.result_apply m c b t k).symm)

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
